-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x4096 : Shape := ⟨2, ![2048, 4096]⟩
abbrev S4096x8192 : Shape := ⟨2, ![4096, 8192]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S2048x4096 .f32) (main_arg1 : FVec F S4096x8192 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Pre_finite_ReferenceIdeal.lean ====
abbrev S2048x4096 : Shape := ⟨2, ![2048, 4096]⟩
abbrev S4096x16384 : Shape := ⟨2, ![4096, 16384]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S2048x4096 .f32) (main_arg1 : FVec F S4096x16384 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  main_v8
-- ==== Kernel.lean ====
abbrev S2048x4096 : Shape := ⟨2, ![2048, 4096]⟩
abbrev S4096x8192 : Shape := ⟨2, ![4096, 8192]⟩
abbrev S2048x8192 : Shape := ⟨2, ![2048, 8192]⟩
abbrev S2048x128 : Shape := ⟨2, ![2048, 128]⟩
abbrev S1024x4096 : Shape := ⟨2, ![1024, 4096]⟩
abbrev S4096x512 : Shape := ⟨2, ![4096, 512]⟩
abbrev S1024x512 : Shape := ⟨2, ![1024, 512]⟩
abbrev S1024x128 : Shape := ⟨2, ![1024, 128]⟩
abbrev S1024x1 : Shape := ⟨2, ![1024, 1]⟩
abbrev S1024 : Shape := ⟨1, ![1024]⟩
abbrev S2048x1 : Shape := ⟨2, ![2048, 1]⟩
abbrev S2048x16384 : Shape := ⟨2, ![2048, 16384]⟩
abbrev S256x8192 : Shape := ⟨2, ![256, 8192]⟩
abbrev S8 : Shape := ⟨1, ![8]⟩
abbrev S_ : Shape := ⟨0, ![]⟩
abbrev S1 : Shape := ⟨1, ![1]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048x4096, .bf16⟩
  | .hbm, ⟨3, _⟩ => ⟨S4096x8192, .bf16⟩
  | .hbm, ⟨4, _⟩ => ⟨S2048x8192, .bf16⟩
  | .hbm, ⟨5, _⟩ => ⟨S2048x128, .f32⟩
  | .hbm, ⟨6, _⟩ => ⟨S2048x1, .f32⟩
  | .hbm, ⟨7, _⟩ => ⟨S2048x16384, .f32⟩
  | .hbm, ⟨8, _⟩ => ⟨S2048x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x128, .f32⟩
  | .local _ .vmem, ⟨7, _⟩ => ⟨S1024x128, .f32⟩
  | .local _ .vmem, ⟨8, _⟩ => ⟨S2048x1, .f32⟩
  | .local _ .vmem, ⟨9, _⟩ => ⟨S256x8192, .bf16⟩
  | .local _ .vmem, ⟨10, _⟩ => ⟨S256x8192, .bf16⟩
  | .local _ .vmem, ⟨11, _⟩ => ⟨S256x8192, .f32⟩
  | .local _ .vmem, ⟨12, _⟩ => ⟨S2048x1, .f32⟩
  | .local _ .vmem, ⟨13, _⟩ => ⟨S2048x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev barrier0 : Sem sig := 0

abbrev nD : Nat := 16
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := .none

def k1_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k1_dev2 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v17 : BitVec 32 := Scalar.muli v2 c8_i32_8
  let v18 : BitVec 32 := Scalar.addi c0_i32_9 v17
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v19 : BitVec 32 := Scalar.muli v9 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
def k1_cond1 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_22 : BitVec 32 := 0#32
  let v38 : BitVec 1 := Scalar.cmpi .eq v5 c0_i32_22
  let v39 : BitVec 32 := Scalar.extui v38
  let c0_i32_23 : BitVec 32 := 0#32
  let v40 : BitVec 1 := Scalar.cmpi .ne v39 c0_i32_23
  v40

def k1_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v46 : BitVec 32 := Scalar.muli v2 c8_i32_32
  let v47 : BitVec 32 := Scalar.addi c0_i32_33 v46
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v48 : BitVec 32 := Scalar.muli v9 c4_i32_34
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v50 : BitVec 32 := Scalar.muli v8 c1_i32_35
  let v51 : BitVec 32 := Scalar.addi v49 v50
  v51.toNat
def k1_dev4 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v76 : BitVec 32 := Scalar.muli v2 c8_i32_60
  let v77 : BitVec 32 := Scalar.addi c0_i32_61 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_62 : BitVec 32 := 4#32
  let v78 : BitVec 32 := Scalar.muli v9 c4_i32_62
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v80 : BitVec 32 := Scalar.muli v8 c1_i32_63
  let v81 : BitVec 32 := Scalar.addi v79 v80
  v81.toNat
def k1_dev5 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v131 : BitVec 32 := Scalar.muli v2 c8_i32_110
  let v132 : BitVec 32 := Scalar.addi c0_i32_111 v131
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_112 : BitVec 32 := 4#32
  let v133 : BitVec 32 := Scalar.muli v9 c4_i32_112
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v135 : BitVec 32 := Scalar.muli v8 c1_i32_113
  let v136 : BitVec 32 := Scalar.addi v134 v135
  v136.toNat
def k1_dev6 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v186 : BitVec 32 := Scalar.muli v2 c8_i32_160
  let v187 : BitVec 32 := Scalar.addi c0_i32_161 v186
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_162 : BitVec 32 := 4#32
  let v188 : BitVec 32 := Scalar.muli v9 c4_i32_162
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v190 : BitVec 32 := Scalar.muli v8 c1_i32_163
  let v191 : BitVec 32 := Scalar.addi v189 v190
  v191.toNat
def k1_dev7 (d0 : Dev nD) : Nat :=
  let c0_i32_212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_211 : BitVec 32 := 8#32
  let v241 : BitVec 32 := Scalar.muli v2 c8_i32_211
  let v242 : BitVec 32 := Scalar.addi c0_i32_212 v241
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_213 : BitVec 32 := 4#32
  let v243 : BitVec 32 := Scalar.muli v9 c4_i32_213
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v245 : BitVec 32 := Scalar.muli v8 c1_i32_214
  let v246 : BitVec 32 := Scalar.addi v244 v245
  v246.toNat
def k1_dev8 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v296 : BitVec 32 := Scalar.muli v2 c8_i32_261
  let v297 : BitVec 32 := Scalar.addi c0_i32_262 v296
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_263 : BitVec 32 := 4#32
  let v298 : BitVec 32 := Scalar.muli v9 c4_i32_263
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v300 : BitVec 32 := Scalar.muli v8 c1_i32_264
  let v301 : BitVec 32 := Scalar.addi v299 v300
  v301.toNat
def k1_dev9 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v351 : BitVec 32 := Scalar.muli v2 c8_i32_311
  let v352 : BitVec 32 := Scalar.addi c0_i32_312 v351
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_313 : BitVec 32 := 4#32
  let v353 : BitVec 32 := Scalar.muli v9 c4_i32_313
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v355 : BitVec 32 := Scalar.muli v8 c1_i32_314
  let v356 : BitVec 32 := Scalar.addi v354 v355
  v356.toNat
def k1_dev10 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_361 : BitVec 32 := 8#32
  let v406 : BitVec 32 := Scalar.muli v2 c8_i32_361
  let v407 : BitVec 32 := Scalar.addi c0_i32_362 v406
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_363 : BitVec 32 := 4#32
  let v408 : BitVec 32 := Scalar.muli v9 c4_i32_363
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v410 : BitVec 32 := Scalar.muli v8 c1_i32_364
  let v411 : BitVec 32 := Scalar.addi v409 v410
  v411.toNat
def k1_cond2 (d0 : Dev nD) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_24 : BitVec 32 := 1#32
  let v41 : BitVec 1 := Scalar.cmpi .eq v5 c1_i32_24
  let v42 : BitVec 32 := Scalar.extui v41
  let c0_i32_25 : BitVec 32 := 0#32
  let v43 : BitVec 1 := Scalar.cmpi .ne v42 c0_i32_25
  v43

def k1_dev11 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v46 : BitVec 32 := Scalar.muli v2 c8_i32_32
  let v47 : BitVec 32 := Scalar.addi c0_i32_33 v46
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v48 : BitVec 32 := Scalar.muli v9 c4_i32_34
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v50 : BitVec 32 := Scalar.muli v8 c1_i32_35
  let v51 : BitVec 32 := Scalar.addi v49 v50
  v51.toNat
def k1_dev12 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v76 : BitVec 32 := Scalar.muli v2 c8_i32_59
  let v77 : BitVec 32 := Scalar.addi c0_i32_60 v76
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v78 : BitVec 32 := Scalar.muli v9 c4_i32_61
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v80 : BitVec 32 := Scalar.muli v8 c1_i32_62
  let v81 : BitVec 32 := Scalar.addi v79 v80
  v81.toNat
def k1_dev13 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v131 : BitVec 32 := Scalar.muli v2 c8_i32_110
  let v132 : BitVec 32 := Scalar.addi c0_i32_111 v131
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_112 : BitVec 32 := 4#32
  let v133 : BitVec 32 := Scalar.muli v9 c4_i32_112
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v135 : BitVec 32 := Scalar.muli v8 c1_i32_113
  let v136 : BitVec 32 := Scalar.addi v134 v135
  v136.toNat
def k1_dev14 (d0 : Dev nD) : Nat :=
  let c0_i32_161 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_160 : BitVec 32 := 8#32
  let v186 : BitVec 32 := Scalar.muli v2 c8_i32_160
  let v187 : BitVec 32 := Scalar.addi c0_i32_161 v186
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_162 : BitVec 32 := 4#32
  let v188 : BitVec 32 := Scalar.muli v9 c4_i32_162
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v190 : BitVec 32 := Scalar.muli v8 c1_i32_163
  let v191 : BitVec 32 := Scalar.addi v189 v190
  v191.toNat
def k1_dev15 (d0 : Dev nD) : Nat :=
  let c0_i32_212 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_211 : BitVec 32 := 8#32
  let v241 : BitVec 32 := Scalar.muli v2 c8_i32_211
  let v242 : BitVec 32 := Scalar.addi c0_i32_212 v241
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_213 : BitVec 32 := 4#32
  let v243 : BitVec 32 := Scalar.muli v9 c4_i32_213
  let v244 : BitVec 32 := Scalar.addi v242 v243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v245 : BitVec 32 := Scalar.muli v8 c1_i32_214
  let v246 : BitVec 32 := Scalar.addi v244 v245
  v246.toNat
def k1_dev16 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_261 : BitVec 32 := 8#32
  let v296 : BitVec 32 := Scalar.muli v2 c8_i32_261
  let v297 : BitVec 32 := Scalar.addi c0_i32_262 v296
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_263 : BitVec 32 := 4#32
  let v298 : BitVec 32 := Scalar.muli v9 c4_i32_263
  let v299 : BitVec 32 := Scalar.addi v297 v298
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v300 : BitVec 32 := Scalar.muli v8 c1_i32_264
  let v301 : BitVec 32 := Scalar.addi v299 v300
  v301.toNat
def k1_dev17 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v351 : BitVec 32 := Scalar.muli v2 c8_i32_311
  let v352 : BitVec 32 := Scalar.addi c0_i32_312 v351
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_313 : BitVec 32 := 4#32
  let v353 : BitVec 32 := Scalar.muli v9 c4_i32_313
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_314 : BitVec 32 := 1#32
  let v355 : BitVec 32 := Scalar.muli v8 c1_i32_314
  let v356 : BitVec 32 := Scalar.addi v354 v355
  v356.toNat
def k1_dev18 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_361 : BitVec 32 := 8#32
  let v406 : BitVec 32 := Scalar.muli v2 c8_i32_361
  let v407 : BitVec 32 := Scalar.addi c0_i32_362 v406
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_363 : BitVec 32 := 4#32
  let v408 : BitVec 32 := Scalar.muli v9 c4_i32_363
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v410 : BitVec 32 := Scalar.muli v8 c1_i32_364
  let v411 : BitVec 32 := Scalar.addi v409 v410
  v411.toNat
abbrev stage1_0 : Fin 1 → Memref sig .tc .vmem S2048x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x16384, .f32⟩
  | .hbm, ⟨13, _⟩ => ⟨S2048x16384, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Steps.lean ====
/- The steps of the exchange, each written once at a symbolic row tile: loading a tile of this device's
   numerators, sending it to the neighbour, scaling and storing a tile, taking in the tile the neighbour
   sent. The printed branches of the body are these steps in a row. -/
module

public import proofs.«01_k».proof.Proof.Gen.KernelIdeal
public import proofs.«01_k».proof.Proof.Gen.KernelIdeal.Skeleton

@[expose] public section

noncomputable section

namespace Cert.KernelIdeal.Ex

open Idealize.ShloMosaic Idealize.SL.Sem
open Cert.KernelIdeal.Gen

variable {F : FTy → Type} [FloatOps F]

/-- Programs of the exchange's body. -/
abbrev P (F : FTy → Type) [FloatOps F] (α : Type) := Prog (TpuEff nD τ sig (Elt F) Λ₀ .tc) α

/-! ## Views -/

theorem inbRow (i : Fin 8) : ∀ a, (![256 * i.val, 0] : Fin 2 → Nat) a + S256x8192.size a ≤ S2048x8192.size a := by
  revert i; decide

theorem wordsRow (i : Fin 8) :
    (Rect.unit (s := S2048x8192) ![256 * i.val, 0] S256x8192.size (inbRow i)).WholeWords (EltTy.packing .bf16) := by
  revert i; decide

theorem inbRecip (i : Fin 8) : ∀ a, (![256 * i.val, 0] : Fin 2 → Nat) a + S256x1.size a ≤ S2048x1.size a := by
  revert i; decide

theorem inbOut (h : Fin 2) (i : Fin 8) :
    ∀ a, (![256 * i.val, 8192 * h.val] : Fin 2 → Nat) a + S256x8192.size a ≤ S2048x16384.size a := by
  revert h i; decide

theorem inbSem (i : Fin 8) : ∀ a, (![i.val] : Fin 1 → Nat) a + S1.size a ≤ S8.size a := by
  revert i; decide

/-- Row tile `i` of this device's numerators. -/
def eT (i : Fin 8) : Memref sig .tc .hbm S256x8192 .bf16 :=
  (Memref.whole main_v3_0).slice (Rect.unit (s := S2048x8192) ![256 * i.val, 0] S256x8192.size (inbRow i)) (fun _ => rfl)

/-- Row tile `i` of the buffer the neighbour sends into. -/
def rT (i : Fin 8) : Memref sig .tc .hbm S256x8192 .bf16 :=
  (Memref.whole main_v5_1).slice (Rect.unit (s := S2048x8192) ![256 * i.val, 0] S256x8192.size (inbRow i)) (fun _ => rfl)

/-- Row tile `i` of half `h` of the output. -/
def oT (h : Fin 2) (i : Fin 8) : Memref sig .tc .hbm S256x8192 .f32 :=
  (Memref.whole main_v5_0).slice (Rect.unit (s := S2048x16384) ![256 * i.val, 8192 * h.val] S256x8192.size (inbOut h i)) (fun _ => rfl)

/-- The semaphore the sending of tile `i` credits here. -/
def sS (i : Fin 8) : DmaSem sig :=
  ((cc1_scratch5.slice (Rect.unit (s := S8) ![i.val] S1.size (inbSem i))).squeeze S_ squeezes_S1_S_).sem
/-- The semaphore the sending of tile `i` credits at the neighbour. -/
def sR (i : Fin 8) : DmaSem sig :=
  ((cc1_scratch6.slice (Rect.unit (s := S8) ![i.val] S1.size (inbSem i))).squeeze S_ squeezes_S1_S_).sem
/-- The semaphore of the stores of tile `i`. -/
def sT (i : Fin 8) : DmaSem sig :=
  ((cc1_scratch7.slice (Rect.unit (s := S8) ![i.val] S1.size (inbSem i))).squeeze S_ squeezes_S1_S_).sem

abbrev buf : Memref sig .tc .vmem S256x8192 .bf16 := Memref.whole cc1_scratch0
abbrev rbuf : Memref sig .tc .vmem S256x8192 .bf16 := Memref.whole cc1_scratch1
abbrev stb : Memref sig .tc .vmem S256x8192 .f32 := Memref.whole cc1_scratch2
abbrev rcp : Memref sig .tc .vmem S2048x1 .f32 := Memref.whole cc1_scratch4

theorem eT_words (i : Fin 8) : (eT i).view.WordExact :=
  (Memref.isWhole_whole main_v3_0).wordExact_slice rfl _ (wordsRow i)
theorem rT_words (i : Fin 8) : (rT i).view.WordExact :=
  (Memref.isWhole_whole main_v5_1).wordExact_slice rfl _ (wordsRow i)

/-- The scaled tile: its numerators, each times its row's reciprocal. -/
def scaled (v : Vec F S256x8192 .bf16) (w : Vec F S256x1 .f32) : Vec F S256x8192 .f32 := k1_pay2 v w

/-! ## Steps -/

/-- Load tile `i`. -/
def ldP (i : Fin 8) : P F PUnit := do
  Prog.lift (.enqueueDma (eT i) (.here buf) (.dma cc1_scratch8.sem) (eT_words i) (Memref.isWhole_whole _).wordExact ⟨Or.inl rfl, trivial⟩)
  Prog.lift (.waitDma2 cc1_scratch8.sem (eT i) buf (eT_words i) (Memref.isWhole_whole _).wordExact)

/-- Send it to device `d`. -/
def sendP (d : Dev nD) (i : Fin 8) : P F PUnit :=
  Prog.lift (.enqueueDma buf (.remote (Dev.tc d) (rT i) (.dma (sS i))) (.dma (sR i)) (Memref.isWhole_whole _).wordExact (rT_words i) ⟨⟨rfl, Or.inl rfl⟩, trivial⟩)

/-- Scale the tile held in `b` and store it as tile `i` of half `h`. -/
def outP (b : Memref sig .tc .vmem S256x8192 .bf16) (h : Fin 2) (i : Fin 8) : P F PUnit := do
  let v ← Prog.lift (.load b (Rect.unit (s := S256x8192) ![0, 0] S256x8192.size inb_S256x8192_S256x8192_0_0).toLoadRect (View.loadsAt_vmem h_S256x8192))
  let w ← Prog.lift (.load rcp (Rect.unit (s := S2048x1) ![256 * i.val, 0] S256x1.size (inbRecip i)).toLoadRect (View.loadsAt_vmem h_S256x1))
  let _ ← Prog.lift (.load stb (Rect.unit (s := S256x8192) ![0, 0] S256x8192.size inb_S256x8192_S256x8192_0_0).toLoadRect (View.loadsAt_vmem h_S256x8192))
  Prog.lift (.store stb (Rect.unit (s := S256x8192) ![0, 0] S256x8192.size inb_S256x8192_S256x8192_0_0) (scaled v w) Finset.univ (View.stores_vmem_bits_univ h_S256x8192 rfl) (.inl rfl))
  Prog.lift (.enqueueDma stb (.here (oT h i)) (.dma (sT i)) (Memref.isWhole_whole _).wordExact (View.wordExact_bits rfl) ⟨Or.inl rfl, trivial⟩)
  Prog.lift (.waitDma2 (sT i) stb (oT h i) (Memref.isWhole_whole _).wordExact (View.wordExact_bits rfl))

/-- Wait for tile `i` from the neighbour and copy it in. -/
def rcvP (i : Fin 8) : P F PUnit := do
  Prog.lift (.waitDma2 (sR i) buf (rT i) (Memref.isWhole_whole _).wordExact (rT_words i))
  Prog.lift (.enqueueDma (rT i) (.here rbuf) (.dma cc1_scratch9.sem) (rT_words i) (Memref.isWhole_whole _).wordExact ⟨Or.inl rfl, trivial⟩)
  Prog.lift (.waitDma2 cc1_scratch9.sem (rT i) rbuf (rT_words i) (Memref.isWhole_whole _).wordExact)

/-- Wait until tile `i` is sent. -/
def wsP (i : Fin 8) : P F PUnit :=
  Prog.lift (.waitDma2 (sS i) (rT i) buf (rT_words i) (Memref.isWhole_whole _).wordExact)

/-- Tile `i`, own half `h`, up to the stored own tile. -/
def ownP (d : Dev nD) (h : Fin 2) (i : Fin 8) : P F PUnit := do
  ldP i; sendP d i; outP buf h i

/-- Take in tile `i` of the neighbour, whose half is `h`. -/
def inP (h : Fin 2) (i : Fin 8) : P F PUnit := do
  rcvP i; outP rbuf h i

/-- One trip: tile `i + 1`, the taking in of tile `i`, the end of the sending. -/
def tripP (d : Dev nD) (h h' : Fin 2) (i : Fin 7) : P F PUnit := do
  ownP d h i.succ; inP h' i.castSucc; wsP i.succ

/-- A branch of the body: own half `h`, the neighbour's half `h'`. -/
def branchP (d : Dev nD) (h h' : Fin 2) : P F PUnit := do
  ownP d h 0; wsP 0
  tripP d h h' 0; tripP d h h' 1; tripP d h h' 2; tripP d h h' 3; tripP d h h' 4; tripP d h h' 5; tripP d h h' 6
  inP h' 7

end Cert.KernelIdeal.Ex
-- ==== Proof.Proto.lean ====
/- The exchange's protocol. Device `c` and its neighbour `nbr c` (the same place but for the second mesh axis) hand each
   other: with the barrier signal, the two buffers the other will write into; with the first remote copy, the row sums;
   with remote copy `i`, row tile `i` of the numerators. Every semaphore is used for one round. -/
module

public import proofs.«01_k».proof.Proof.Steps
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.Tactic
public import Idealize.ShloMosaic.Lib.Ring

@[expose] public section

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The pipelines' ghost state, the exchange's, and the counters of the local copies. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
/-- The exchange's rounds. -/
def ER : Emb (UR sig nD τ) (MT nD τ sig Unit (Elt F) ℕ UU ℕ) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb
instance ER_landsIn : (ER : Emb (UR sig nD τ) 𝕄).LandsIn (upEmb : UEmb _ 𝕄) := by unfold ER; infer_instance

/-! ## The neighbour -/

/-- The device the body of device `c` talks to. -/
def nbr (c : Dev nD) : Dev nD := ⟨k1_dev1 c, k1_dev1_lt c⟩

theorem nbr_val (c : Dev nD) : (nbr c).val = (8 * (c.val / 8) + c.val % 4 + 4) - 4 * ((c.val / 4) % 2) := by
  revert c; decide
theorem nbr_nbr (c : Dev nD) : nbr (nbr c) = c := by
  apply Fin.ext; have := c.isLt; rw [nbr_val, nbr_val]; omega
theorem nbr_ne (c : Dev nD) : nbr c ≠ c := by
  intro h; have := congrArg Fin.val h; rw [nbr_val] at this; have := c.isLt; omega
def nbrEquiv : Dev nD ≃ Dev nD := ⟨nbr, nbr, nbr_nbr, nbr_nbr⟩

/-- The half of the columns device `c` computes. -/
def half (c : Dev nD) : Fin 2 := ⟨(c.val / 4) % 2, Nat.mod_lt _ (by decide)⟩
/-- The other half: its neighbour's. -/
def half' (c : Dev nD) : Fin 2 := half (nbr c)

/-! ## Semaphores and cells -/

theorem sS_val (i : Fin 8) : (sS i).val = 9 + i.val := by fin_cases i <;> rfl
theorem sR_val (i : Fin 8) : (sR i).val = 17 + i.val := by fin_cases i <;> rfl
theorem sT_val (i : Fin 8) : (sT i).val = 25 + i.val := by fin_cases i <;> rfl

abbrev ssS : DmaSem sig := cc1_scratch10.sem
abbrev srS : DmaSem sig := cc1_scratch11.sem
abbrev ldS : DmaSem sig := cc1_scratch8.sem
abbrev rlS : DmaSem sig := cc1_scratch9.sem

theorem ssS_val : ssS.val = 35 := rfl
theorem srS_val : srS.val = 36 := rfl
theorem ldS_val : ldS.val = 33 := rfl
theorem rlS_val : rlS.val = 34 := rfl

abbrev barCell (c : Dev nD) : GSem nD τ sig := ((c : Thread nD τ), .reg barrier0)
abbrev dCell (c : Dev nD) (s : DmaSem sig) : GSem nD τ sig := ((c : Thread nD τ), .dma s)

/-- What a landing of one row tile credits. -/
abbrev N : ℕ := (rT 0).view.dmaCredit
/-- What the landing of the row sums credits. -/
abbrev Ns : ℕ := (Memref.whole cc1_scratch3 : Memref sig .tc .vmem S2048x1 .f32).view.dmaCredit
theorem N_pos : 0 < N := View.dmaCredit_pos _ (by decide)
theorem Ns_pos : 0 < Ns := View.dmaCredit_pos _ (by decide)

/-! ## Contents -/

abbrev snb : Memref sig .tc .vmem S2048x1 .f32 := Memref.whole cc1_scratch3
abbrev stg : Memref sig .tc .vmem S2048x1 .f32 := Memref.whole cc1_stg0_0

/-- Contents of an array of numerators, and of row sums. -/
abbrev EBuf (F : FTy → Type) [FloatOps F] : Type := (⟨S2048x8192, .bf16⟩ : BufTy).Contents (Elt F)
abbrev SBuf (F : FTy → Type) [FloatOps F] : Type := (⟨S2048x1, .f32⟩ : BufTy).Contents (Elt F)
abbrev OBuf (F : FTy → Type) [FloatOps F] : Type := (⟨S2048x16384, .f32⟩ : BufTy).Contents (Elt F)

variable (E : Dev nD → EBuf F) (S : Dev nD → SBuf F)

/-- Row tile `i` of an array of numerators. -/
def tile (f : EBuf F) (i : Fin 8) : (⟨S256x8192, .bf16⟩ : BufTy).Contents (Elt F) := (eT i).view.read (Elt F) f

/-- Rows of tile `i` of a column. -/
def rows (g : SBuf F) (i : Fin 8) : Vec F S256x1 .f32 :=
  (rcp).view.readAt (Elt F) (Rect.unit (s := S2048x1) ![256 * i.val, 0] S256x1.size (inbRecip i)).toLoadRect g

/-- The reciprocals of the row sums: this device's part and the neighbour's, added. -/
def recip (c : Dev nD) : SBuf F := k1_pay1 (S c) (S (nbr c))

/-- A row of an array of row tiles. -/
def tileOf (r : ℕ) (h : r < 2048) : Fin 8 := ⟨r / 256, by omega⟩

/-- What device `c` stores: each numerator times its row's reciprocal, its own in its half of the columns, the
    neighbour's in the other. -/
def outW (c : Dev nD) : OBuf F := fun j =>
  scaled (tile (if (j 1).val / 8192 = (half c).val then E c else E (nbr c)) (tileOf (j 0).val (j 0).isLt))
    (rows (recip S c) (tileOf (j 0).val (j 0).isLt))
    (fun a => match a with
      | ⟨0, _⟩ => (⟨(j 0).val % 256, Nat.mod_lt _ (by decide)⟩ : Fin 256)
      | ⟨1, _⟩ => (⟨(j 1).val % 8192, Nat.mod_lt _ (by decide)⟩ : Fin 8192))

/-! ## Resources -/

abbrev eP (c : Dev nD) (i : Fin 8) (f : EBuf F) : sProp 𝕄 := (eT i).view.loc (c : Thread nD τ) ↦[(eT i).view.set]{fullShare} f
abbrev rP (c : Dev nD) (i : Fin 8) (f : EBuf F) : sProp 𝕄 := (rT i).view.loc (c : Thread nD τ) ↦[(rT i).view.set]{fullShare} f
abbrev oP (c : Dev nD) (h : Fin 2) (i : Fin 8) (f : OBuf F) : sProp 𝕄 := (oT h i).view.loc (c : Thread nD τ) ↦[(oT h i).view.set]{fullShare} f
abbrev bP (c : Dev nD) (q : PosShare TreeShare) (f : (⟨S256x8192, .bf16⟩ : BufTy).Contents (Elt F)) : sProp 𝕄 := buf.view.loc (c : Thread nD τ) ↦[buf.view.set]{q} f
abbrev nP (c : Dev nD) (f : SBuf F) : sProp 𝕄 := snb.view.loc (c : Thread nD τ) ↦[snb.view.set]{fullShare} f
abbrev gP (c : Dev nD) (f : SBuf F) : sProp 𝕄 := stg.view.loc (c : Thread nD τ) ↦[stg.view.set]{fullShare} f

/-! ## The schedule -/

/-- With `c`'s barrier unit, from its neighbour: the neighbour's buffers `c` writes into, their receive cells open. -/
def barPay (c : Dev nD) : sProp 𝕄 :=
  iprop((∃ f, nP (nbr c) f) ∗ (bigSep Finset.univ fun i : Fin 8 => iprop(∃ f, rP (nbr c) i f))
    ∗ reached ER (dCell (nbr c) srS) 0 ∗ bigSep Finset.univ fun i : Fin 8 => reached ER (dCell (nbr c) (sR i)) 0)

/-- What a landing on DMA cell `n` of device `c` hands its owner. -/
def dmaPay (c : Dev nD) (n : ℕ) : sProp 𝕄 :=
  if h : 9 ≤ n ∧ n < 17 then bP c fullShare.left (tile (E c) ⟨n - 9, by omega⟩)
  else if h : 17 ≤ n ∧ n < 25 then rP c ⟨n - 17, by omega⟩ (E (nbr c))
  else if n = 35 then gP c (S c)
  else if n = 36 then nP c (S (nbr c))
  else iprop(emp)

/-- The DMA semaphores of the exchange. -/
abbrev isTalk (n : ℕ) : Prop := (9 ≤ n ∧ n < 25) ∨ n = 35 ∨ n = 36

abbrev IsTalk (g : GSem nD τ sig) : Prop :=
  g.1.2 = .tc ∧ (match g.2 with | .reg s => s = barrier0 | .dma n => isTalk n.val)

def amt (sm : SemLoc sig) : ℕ := match sm with
  | .reg _ => 1
  | .dma n => if n.val = 35 ∨ n.val = 36 then Ns else N

open Classical in
def Rd : Rounds.Schedule (GSem nD τ sig) Unit 𝕄 where
  duties g r := if r = 0 ∧ IsTalk g then {()} else ∅
  unitless _ := False
  amount g _ _ := amt g.2
  payload g _ _ := match g.2 with | .reg _ => barPay g.1.1 | .dma n => dmaPay E S g.1.1 n.val
  amount_pos g _ _ _ := by
    unfold amt
    split
    · exact Nat.one_pos
    · split
      · exact Ns_pos
      · exact N_pos

theorem pointsTo_st (ℓ : Loc nD τ sig) (I : Finset (Idx ℓ)) (q : PosShare TreeShare) (f : Buf (Elt F) ℓ) :
    BI.Storable (upEmb : UEmb _ 𝕄) (ℓ ↦[I]{q} f) := inferInstance

instance rP_storable (c : Dev nD) (i : Fin 8) (f : EBuf F) : BI.Storable (upEmb : UEmb _ 𝕄) (rP c i f) := by
  unfold rP; exact pointsTo_st ((rT i).view.loc (c : Thread nD τ)) (rT i).view.set fullShare f

instance Rd_payload_storable (g : GSem nD τ sig) (r : ℕ) (d : Unit) :
    BI.Storable (upEmb : UEmb _ 𝕄) ((Rd E S).payload g r d) := by
  show BI.Storable upEmb (match g.2 with | .reg _ => barPay g.1.1 | .dma n => dmaPay E S g.1.1 n.val)
  unfold barPay dmaPay
  (repeat' split) <;> infer_instance

section Sched
variable (c : Dev nD)

theorem talk_bar : IsTalk (barCell c) := ⟨rfl, rfl⟩
theorem talk_dma {s : DmaSem sig} (h : isTalk s.val) : IsTalk (dCell c s) := ⟨rfl, h⟩
theorem talk_sS (i : Fin 8) : IsTalk (dCell c (sS i)) := talk_dma c (by rw [sS_val]; omega)
theorem talk_sR (i : Fin 8) : IsTalk (dCell c (sR i)) := talk_dma c (by rw [sR_val]; omega)
theorem talk_ss : IsTalk (dCell c ssS) := talk_dma c (.inr (.inl rfl))
theorem talk_sr : IsTalk (dCell c srS) := talk_dma c (.inr (.inr rfl))

theorem duties_of {g : GSem nD τ sig} (h : IsTalk g) : (Rd E S).duties g 0 = {()} := if_pos ⟨rfl, h⟩
theorem duties_later (g : GSem nD τ sig) : ∀ r, 1 ≤ r → (Rd E S).duties g r = ∅ :=
  fun r hr => if_neg fun h => by omega
theorem mem_duties {g : GSem nD τ sig} (h : IsTalk g) : () ∈ (Rd E S).duties g 0 := by
  rw [duties_of E S h]; exact Finset.mem_singleton_self _

theorem amount_bar (u : Unit) : (Rd E S).amount (barCell c) 0 u = 1 := rfl
theorem amount_sS (i : Fin 8) (u : Unit) : (Rd E S).amount (dCell c (sS i)) 0 u = N :=
  if_neg (by rw [sS_val]; omega)
theorem amount_sR (i : Fin 8) (u : Unit) : (Rd E S).amount (dCell c (sR i)) 0 u = N :=
  if_neg (by rw [sR_val]; omega)
theorem amount_ss (u : Unit) : (Rd E S).amount (dCell c ssS) 0 u = Ns :=
  if_pos (c := ssS.val = 35 ∨ ssS.val = 36) (e := N) (show ssS.val = 35 ∨ ssS.val = 36 from .inl rfl)
theorem amount_sr (u : Unit) : (Rd E S).amount (dCell c srS) 0 u = Ns :=
  if_pos (c := srS.val = 35 ∨ srS.val = 36) (e := N) (show srS.val = 35 ∨ srS.val = 36 from .inr rfl)

theorem expect_of {g : GSem nD τ sig} (h : IsTalk g) : (Rd E S).expect g 0 = (Rd E S).amount g 0 () := by
  unfold Schedule.expect Schedule.amountOf; rw [duties_of E S h, Finset.sum_singleton]

theorem payload_bar (u : Unit) : (Rd E S).payload (barCell c) 0 u = barPay c := rfl
theorem payload_sS (i : Fin 8) (u : Unit) : (Rd E S).payload (dCell c (sS i)) 0 u = bP c fullShare.left (tile (E c) i) := by
  show dmaPay E S c (sS i).val = _
  unfold dmaPay
  have := i.isLt
  rw [dif_pos (by rw [sS_val]; omega)]
  congr 2
  exact Fin.ext (by show (sS i).val - 9 = _; rw [sS_val]; omega)
theorem payload_sR (i : Fin 8) (u : Unit) : (Rd E S).payload (dCell c (sR i)) 0 u = rP c i (E (nbr c)) := by
  show dmaPay E S c (sR i).val = _
  unfold dmaPay
  have := i.isLt
  rw [dif_neg (by rw [sR_val]; omega), dif_pos (by rw [sR_val]; omega)]
  have e : (⟨(sR i).val - 17, by rw [sR_val]; omega⟩ : Fin 8) = i := Fin.ext (by show (sR i).val - 17 = _; rw [sR_val]; omega)
  rw [e]
theorem payload_ss (u : Unit) : (Rd E S).payload (dCell c ssS) 0 u = gP c (S c) := rfl
theorem payload_sr (u : Unit) : (Rd E S).payload (dCell c srS) 0 u = nP c (S (nbr c)) := rfl

theorem rest_of {g : GSem nD τ sig} (h : IsTalk g) :
    bigSep ((Rd E S).duties g 0 \ ∅) (fun u => (Rd E S).payload g 0 u) = (Rd E S).payload g 0 () := by
  rw [Finset.sdiff_empty, duties_of E S h, bigSep_singleton]

end Sched

/-! ## The cells -/

/-- The exchange's DMA semaphores: eight to send with, eight to receive with, and the row sums' pair. -/
def tk (k : Fin 18) : DmaSem sig :=
  if h : k.val < 8 then sS ⟨k.val, h⟩ else if h : k.val < 16 then sR ⟨k.val - 8, by omega⟩ else if k.val = 16 then ssS else srS

theorem tk_val (k : Fin 18) : (tk k).val = if k.val < 16 then 9 + k.val else 19 + k.val := by
  fin_cases k <;> rfl

def barEmb : Dev nD ↪ GSem nD τ sig := ⟨barCell, fun a b h => congrArg (fun g : GSem nD τ sig => g.1.1) h⟩
def scEmb : Dev nD × Fin 18 ↪ GSem nD τ sig := ⟨fun p => dCell p.1 (tk p.2), fun a b h => by
  have h1 : a.1 = b.1 := congrArg (fun g : GSem nD τ sig => g.1.1) h
  have h2 : tk a.2 = tk b.2 := SemLoc.dma.inj (congrArg (fun g : GSem nD τ sig => g.2) h)
  have h3 := congrArg Fin.val h2
  rw [tk_val, tk_val] at h3
  exact Prod.ext h1 (Fin.ext (by split at h3 <;> split at h3 <;> omega))⟩

def barCells : Finset (GSem nD τ sig) := Finset.univ.map barEmb
def scCells : Finset (GSem nD τ sig) := Finset.univ.map scEmb

theorem mem_bar (c : Dev nD) : barCell c ∈ barCells ∪ scCells :=
  Finset.mem_union_left _ (Finset.mem_map_of_mem barEmb (Finset.mem_univ c))
theorem mem_tk (c : Dev nD) (k : Fin 18) : dCell c (tk k) ∈ barCells ∪ scCells :=
  Finset.mem_union_right _ (Finset.mem_map_of_mem scEmb (Finset.mem_univ (c, k)))
def kS (i : Fin 8) : Fin 18 := ⟨i.val, by omega⟩
def kR (i : Fin 8) : Fin 18 := ⟨8 + i.val, by omega⟩
theorem tk_kS (i : Fin 8) : tk (kS i) = sS i := by fin_cases i <;> rfl
theorem tk_kR (i : Fin 8) : tk (kR i) = sR i := by fin_cases i <;> rfl
theorem tk_ss : tk 16 = ssS := rfl
theorem tk_sr : tk 17 = srS := rfl

/-- Every cell's invariant, under one map of names. -/
def Inv (K : GSem nD τ sig → ℕ) : sProp 𝕄 := bigSep (barCells ∪ scCells) fun g => cellInv ER (Rd E S) (K g) g

instance Inv_persistent (K : GSem nD τ sig → ℕ) : BI.Persistent (Inv E S K) := by unfold Inv; infer_instance

theorem inv_bar (K : GSem nD τ sig → ℕ) (c : Dev nD) : Inv E S K ⊢ cellInv ER (Rd E S) (K (barCell c)) (barCell c) :=
  bigSep_elim (mem_bar c)
theorem inv_tk (K : GSem nD τ sig → ℕ) (c : Dev nD) (k : Fin 18) : Inv E S K ⊢ cellInv ER (Rd E S) (K (dCell c (tk k))) (dCell c (tk k)) :=
  bigSep_elim (mem_tk c k)
theorem inv_sS (K : GSem nD τ sig → ℕ) (c : Dev nD) (i : Fin 8) : Inv E S K ⊢ cellInv ER (Rd E S) (K (dCell c (sS i))) (dCell c (sS i)) := by
  rw [← tk_kS]; exact inv_tk E S K c _
theorem inv_sR (K : GSem nD τ sig → ℕ) (c : Dev nD) (i : Fin 8) : Inv E S K ⊢ cellInv ER (Rd E S) (K (dCell c (sR i))) (dCell c (sR i)) := by
  rw [← tk_kR]; exact inv_tk E S K c _

/-! ## What a core owes; the levels -/

/-- The credits of row tiles `n` and on, due to the neighbour. -/
def owed (c : Dev nD) (n : ℕ) : CellTallies nD τ sig Unit :=
  ∑ i ∈ Finset.univ.filter (fun i : Fin 8 => n ≤ i.val), tallyAt (dCell (nbr c) (sR i)) () N

theorem owed_peel (c : Dev nD) (i : Fin 8) :
    owed c i.val = owed c (i.val + 1) + tallyAt (dCell (nbr c) (sR i)) () N := by
  unfold owed
  rw [show (Finset.univ.filter fun j : Fin 8 => i.val ≤ j.val) = insert i (Finset.univ.filter fun j : Fin 8 => i.val + 1 ≤ j.val) from by
      ext j; simp only [Finset.mem_filter, Finset.mem_univ, true_and, Finset.mem_insert, Fin.ext_iff]; omega,
    Finset.sum_insert (by simp), add_comm]
theorem owed_done (c : Dev nD) : owed c 8 = 0 := by
  unfold owed
  rw [show (Finset.univ.filter fun j : Fin 8 => 8 ≤ j.val) = ∅ from by decide, Finset.sum_empty]

/-- With the row sums' credit. -/
def owedS (c : Dev nD) : CellTallies nD τ sig Unit := owed c 0 + tallyAt (dCell (nbr c) srS) () Ns
/-- At launch: with the barrier unit. -/
def O₀ (c : Dev nD) : CellTallies nD τ sig Unit := owedS c + tallyAt (barCell (nbr c)) () 1

def L (g : GSem nD τ sig) : Finset Unit := if g.1.2 = .tc then {()} else ∅
/-- The barrier below the row sums' cell below the tiles' cells in order; all else at the bottom. -/
def lv (g : GSem nD τ sig) (_ : Unit) : ℕ := match g.2 with
  | .reg _ => 1
  | .dma n => if n.val = 36 then 2 else if 17 ≤ n.val ∧ n.val < 25 then n.val - 14 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _

theorem lv_sR (c : Dev nD) (i : Fin 8) (u : Unit) : lv (dCell c (sR i)) u = 3 + i.val := by
  have := i.isLt
  show (if (sR i).val = 36 then 2 else if 17 ≤ (sR i).val ∧ (sR i).val < 25 then (sR i).val - 14 else 0) = _
  rw [sR_val, if_neg (by omega), if_pos (by omega)]; omega
theorem lv_sr (c : Dev nD) (u : Unit) : lv (dCell c srS) u = 2 := rfl
theorem lv_bar (c : Dev nD) (u : Unit) : lv (barCell c) u = 1 := rfl
theorem lv_low (c : Dev nD) (s : DmaSem sig) (h : s.val ≠ 36 ∧ ¬(17 ≤ s.val ∧ s.val < 25)) (u : Unit) : lv (dCell c s) u = 0 := by
  show (if s.val = 36 then 2 else if 17 ≤ s.val ∧ s.val < 25 then s.val - 14 else 0) = _
  rw [if_neg h.1, if_neg h.2]

theorem tally_pos {g g' : GSem nD τ sig} {u : Unit} {n : ℕ} (h : 0 < (tallyAt g' () n : CellTallies nD τ sig Unit) g u) : g = g' := by
  rw [tallyAt_apply] at h
  by_contra hne
  rw [if_neg (fun h' => hne h'.1)] at h
  exact absurd h (Nat.lt_irrefl 0)

theorem owed_pos {c : Dev nD} {n : ℕ} {g : GSem nD τ sig} {u : Unit} (h : 0 < owed c n g u) :
    ∃ i : Fin 8, n ≤ i.val ∧ g = dCell (nbr c) (sR i) := by
  unfold owed at h
  rw [Finset.sum_apply, Finsupp.finset_sum_apply] at h
  obtain ⟨i, hi, hp⟩ := Finset.exists_ne_zero_of_sum_ne_zero (Nat.pos_iff_ne_zero.mp h)
  exact ⟨i, (Finset.mem_filter.mp hi).2, tally_pos (Nat.pos_of_ne_zero hp)⟩

theorem owedS_pos {c : Dev nD} {g : GSem nD τ sig} {u : Unit} (h : 0 < owedS c g u) :
    (∃ i : Fin 8, g = dCell (nbr c) (sR i)) ∨ g = dCell (nbr c) srS := by
  unfold owedS at h
  rw [Pi.add_apply, Finsupp.add_apply] at h
  rcases Nat.add_pos_iff_pos_or_pos.mp h with h | h
  · obtain ⟨i, -, e⟩ := owed_pos h; exact .inl ⟨i, e⟩
  · exact .inr (tally_pos h)

theorem O₀_pos {c : Dev nD} {g : GSem nD τ sig} {u : Unit} (h : 0 < O₀ c g u) :
    u ∈ L g ∧ 0 < lv g u := by
  unfold O₀ at h
  rw [Pi.add_apply, Finsupp.add_apply] at h
  rcases Nat.add_pos_iff_pos_or_pos.mp h with h | h
  · rcases owedS_pos h with ⟨i, rfl⟩ | rfl
    · exact ⟨mem_L .., by rw [lv_sR]; omega⟩
    · exact ⟨mem_L .., by rw [lv_sr]; decide⟩
  · rw [tally_pos h]; exact ⟨mem_L .., by rw [lv_bar]; decide⟩

/-- A wait on a cell below all that is owed. -/
theorem mayWait_of (c : Dev nD) (sm : SemLoc sig) (O : CellTallies nD τ sig Unit) (b : ℕ) (hb : lv ((c : Thread nD τ), sm) () ≤ b)
    (hO : ∀ (g : GSem nD τ sig) (u : Unit), 0 < O g u → u ∈ L g ∧ b < lv g u) :
    (levAts L lv : sProp 𝕄) ⊢ MayWait (c : Thread nD τ) sm () O :=
  MayOwe.of_cut (L := L) (lev := lv) b (fun p hp => by rw [Finset.mem_singleton.mp hp]; exact mem_L ..)
    (fun g u hg => (hO g u hg).1) (fun p hp => by rw [Finset.mem_singleton.mp hp]; exact hb) (fun g u hg => (hO g u hg).2)

/-- While tiles from `n` on are owed, a wait below their cells. -/
theorem mayWait_owed (c : Dev nD) (sm : SemLoc sig) (n : ℕ) (hb : lv ((c : Thread nD τ), sm) () ≤ 2 + n) :
    (levAts L lv : sProp 𝕄) ⊢ MayWait (c : Thread nD τ) sm () (owed c n) :=
  mayWait_of c sm _ (2 + n) hb fun g u hg => by
    obtain ⟨i, hi, rfl⟩ := owed_pos hg
    exact ⟨mem_L .., by rw [lv_sR]; omega⟩

/-- While the row sums are owed too, a wait on the barrier. -/
theorem mayWait_owedS (c : Dev nD) : (levAts L lv : sProp 𝕄) ⊢ MayWait (c : Thread nD τ) (.reg barrier0) () (owedS c) :=
  mayWait_of c _ _ 1 (by rw [lv_bar]) fun g u hg => by
    rcases owedS_pos hg with ⟨i, rfl⟩ | rfl
    · exact ⟨mem_L .., by rw [lv_sR]; omega⟩
    · exact ⟨mem_L .., by rw [lv_sr]; decide⟩

end Cert.KernelIdeal.Ex
-- ==== Proof.BodyEq.lean ====
/- The printed body of the exchange, its windows of statements put together, is the program of `Steps`. -/
module

public import proofs.«01_k».proof.Proof.Steps
public import proofs.«01_k».proof.Proof.Gen.KernelIdeal.Points

@[expose] public section

noncomputable section

namespace Cert.KernelIdeal.Ex

open Idealize.ShloMosaic Idealize.SL.Sem
open Cert.KernelIdeal.Gen

variable {F : FTy → Type} [FloatOps F]

/-- The handshake, the exchange of the row sums, the reciprocals. -/
def headP (d : Dev nD) : P F PUnit := do
  semSignalWord (⟨k1_dev1 d, k1_dev1_lt d⟩ : Dev nD) barrier0 1#32
  semWaitWord barrier0 1#32
  Prog.lift (.enqueueDma (Memref.whole cc1_stg0_0) (.remote (Dev.tc (⟨k1_dev2 d, k1_dev2_lt d⟩ : Dev nD)) (Memref.whole cc1_scratch3) (.dma cc1_scratch10.sem)) (.dma cc1_scratch11.sem) (Memref.isWhole_whole _).wordExact (Memref.isWhole_whole _).wordExact ⟨⟨rfl, Or.inl rfl⟩, trivial⟩)
  Prog.lift (.waitDma2 cc1_scratch10.sem (Memref.whole cc1_scratch3) (Memref.whole cc1_stg0_0) (Memref.isWhole_whole _).wordExact (Memref.isWhole_whole _).wordExact)
  Prog.lift (.waitDma2 cc1_scratch11.sem (Memref.whole cc1_stg0_0) (Memref.whole cc1_scratch3) (Memref.isWhole_whole _).wordExact (Memref.isWhole_whole _).wordExact)
  let v ← Prog.lift (.load (Memref.whole cc1_stg0_0) (Rect.unit (s := S2048x1) ![0, 0] S2048x1.size inb_S2048x1_S2048x1_0_0).toLoadRect (View.loadsAt_vmem h_S2048x1))
  let w ← Prog.lift (.load (Memref.whole cc1_scratch3) (Rect.unit (s := S2048x1) ![0, 0] S2048x1.size inb_S2048x1_S2048x1_0_0).toLoadRect (View.loadsAt_vmem h_S2048x1))
  let _ ← Prog.lift (.load rcp (Rect.unit (s := S2048x1) ![0, 0] S2048x1.size inb_S2048x1_S2048x1_0_0).toLoadRect (View.loadsAt_vmem h_S2048x1))
  Prog.lift (.store rcp (Rect.unit (s := S2048x1) ![0, 0] S2048x1.size inb_S2048x1_S2048x1_0_0) (k1_pay1 v w) Finset.univ (View.stores_vmem_bits_univ h_S2048x1 rfl) (.inl rfl))

/-- The body. -/
def bodyP : P F PUnit := do
  let d ← Prog.lift .deviceId
  headP d
  if _h : k1_cond1 d = 1#1 then branchP ⟨k1_dev1 d, k1_dev1_lt d⟩ 0 1 else pure ⟨⟩
  if _h : k1_cond2 d = 1#1 then branchP ⟨k1_dev1 d, k1_dev1_lt d⟩ 1 0 else pure ⟨⟩
  pure ⟨⟩

set_option maxRecDepth 65536 in
set_option maxHeartbeats 8000000 in
theorem bodyP_eq (t : Fin cfg1.N) : (bodyAt1 t : P F PUnit) = bodyP := rfl

end Cert.KernelIdeal.Ex
-- ==== Proof.Comm.lean ====
/- The steps of the exchange's body. -/
module

public import proofs.«01_k».proof.Proof.Proto
public import proofs.«01_k».proof.Proof.BodyEq
public import Idealize.ShloMosaic.Lib.Exec

@[expose] public section

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (E : Dev nD → EBuf F) (S : Dev nD → SBuf F)

/-- A program's weakest precondition on device `c`. -/
abbrev WP {α : Type} (c : Dev nD) (p : P F α) (Q : α → sProp 𝕄) : sProp 𝕄 :=
  wp frame (wpE (defs₀ (F := F)) 𝒱₀ (c : Thread nD τ) none) Set.univ p Q

/-- The box of all of a two-axis shape places an index at itself. -/
theorem emb_full {d : Fin 2 → ℕ} (inb : ∀ a, (![0, 0] : Fin 2 → ℕ) a + d a ≤ (⟨2, d⟩ : Shape).size a) (x : (⟨2, d⟩ : Shape).Idx) :
    (Rect.unit (s := ⟨2, d⟩) ![0, 0] d inb).emb x = x := by
  funext a
  apply Fin.ext
  rw [Rect.emb_apply]
  fin_cases a <;> simp [Rect.unit]

theorem read_writes_full {sp : Space} {d : Fin 2 → ℕ} {e : EltTy} (v : View sig .tc sp ⟨2, d⟩ e) (f : v.ty.Contents (Elt F))
    (inb : ∀ a, (![0, 0] : Fin 2 → ℕ) a + d a ≤ (⟨2, d⟩ : Shape).size a) (w : (⟨2, d⟩ : Shape).Idx → Elt F e) :
    v.read (Elt F) (v.writes (Elt F) f [⟨Rect.unit (s := ⟨2, d⟩) ![0, 0] d inb, w⟩]) = w := by
  funext y
  have h := View.read_writes_cons_emb v f (Rect.unit (s := ⟨2, d⟩) ![0, 0] d inb) w [] y
  rwa [emb_full] at h

theorem readAt_full {sp : Space} {d : Fin 2 → ℕ} {e : EltTy} (v : View sig .tc sp ⟨2, d⟩ e) (f : v.ty.Contents (Elt F))
    (inb : ∀ a, (![0, 0] : Fin 2 → ℕ) a + d a ≤ (⟨2, d⟩ : Shape).size a) :
    v.readAt (Elt F) (Rect.unit (s := ⟨2, d⟩) ![0, 0] d inb).toLoadRect f = v.read (Elt F) f := by
  funext x
  rw [View.readAt_apply]
  exact congrArg _ (emb_full inb x)

theorem ldP_spec (c : Dev nD) (i : Fin 8) (f : EBuf F) (O : CellTallies nD τ sig Unit) (W : Waits sig Unit)
    (hO : (levAts L lv : sProp 𝕄) ⊢ MayWait (c : Thread nD τ) (.dma ldS) () O) (Q : PUnit → sProp 𝕄) :
    iprop((levAts L lv ∗ semVal (dCell c ldS) 0 ∗ eP c i f ∗ (∃ g, bP c fullShare g) ∗ owes (c : Thread nD τ) O W)
      ∗ ((semVal (dCell c ldS) 0 ∗ eP c i f ∗ bP c fullShare (tile f i) ∗ ∃ W, owes (c : Thread nD τ) O W) -∗ Q ⟨⟩))
      ⊢ WP c (ldP i) Q := by
  unfold WP ldP
  iintro ⟨⟨#Hlev, Hs, He, ⟨%g, Hb⟩, HO⟩, HQ⟩
  ihave #Hmw := hO $$ Hlev
  sl_exec
  rw [wp_ret]
  imodintro
  iapply HQ
  isplitl [Hs]; · iexact Hs
  isplitl [He]; · iexact He
  isplitl [Hb]
  · iapply (Entails.of_eq (pointsTo_congr fun j _ => ?_)) $$ Hb
    unfold ldP_spec.sl.dma0
    exact (congrFun (View.write_univ_eq_writes_whole buf.view g [] _) j).symm.trans (by rw [View.write_whole_univ]; rfl)
  iexists _; iexact HO

theorem outP_spec (c : Dev nD) (b : Memref sig .tc .vmem S256x8192 .bf16) (q : PosShare TreeShare) (fb : Buf (Elt F) (b.view.loc (c : Thread nD τ)))
    (h : Fin 2) (i : Fin 8) (r : SBuf F) (O : CellTallies nD τ sig Unit) (W : Waits sig Unit)
    (hO : (levAts L lv : sProp 𝕄) ⊢ MayWait (c : Thread nD τ) (.dma (sT i)) () O) (Q : PUnit → sProp 𝕄) :
    iprop((levAts L lv ∗ semVal (dCell c (sT i)) 0 ∗ (b.view.loc (c : Thread nD τ) ↦[b.view.set]{q} fb)
        ∗ (∃ g, stb.view.loc (c : Thread nD τ) ↦[stb.view.set]{fullShare} g) ∗ (rcp.view.loc (c : Thread nD τ) ↦[rcp.view.set]{fullShare} r)
        ∗ (∃ g, oP c h i g) ∗ owes (c : Thread nD τ) O W)
      ∗ ((semVal (dCell c (sT i)) 0 ∗ (b.view.loc (c : Thread nD τ) ↦[b.view.set]{q} fb)
        ∗ (∃ g, stb.view.loc (c : Thread nD τ) ↦[stb.view.set]{fullShare} g) ∗ (rcp.view.loc (c : Thread nD τ) ↦[rcp.view.set]{fullShare} r)
        ∗ (∃ g, oP c h i ((oT h i).view.write (Elt F) g (scaled (b.view.read (Elt F) fb) (rows r i)) Finset.univ))
        ∗ ∃ W, owes (c : Thread nD τ) O W) -∗ Q ⟨⟩))
      ⊢ WP c (outP b h i) Q := by
  unfold WP outP
  iintro ⟨⟨#Hlev, Hs, Hb, ⟨%g, Ht⟩, Hr, ⟨%o, Hout⟩, HO⟩, HQ⟩
  ihave #Hmw := hO $$ Hlev
  sl_exec
  rw [wp_ret]
  imodintro
  iapply HQ
  isplitl [Hs]; · iexact Hs
  isplitl [Hb]; · iexact Hb
  isplitl [Ht]; · iexists _; iexact Ht
  isplitl [Hr]; · iexact Hr
  isplitl [Hout]
  · iexists o
    unfold outP_spec.sl.dma4 outP_spec.sl.Ht_1
    iapply (Entails.of_eq (pointsTo_congr fun j _ => ?_)) $$ Hout
    refine (congrFun (View.write_univ_eq_writes_whole (oT h i).view o [] _) j).symm.trans ?_
    rw [read_writes_full, readAt_full]
    rfl
  iexists _; iexact HO

/-! ## The stored tiles -/

/-- The two halves of the columns, and whose numerators each takes. -/
def src (c : Dev nD) (h : Fin 2) : EBuf F := if h = half c then E c else E (nbr c)

/-- Where element `x` of row tile `i` of half `h` lies. -/
def oIdx (h : Fin 2) (i : Fin 8) (x : S256x8192.Idx) : S2048x16384.Idx := (oT h i).view.emb x

theorem oIdx_row (h : Fin 2) (i : Fin 8) (x : S256x8192.Idx) : (oIdx h i x 0).val = 256 * i.val + (x 0).val := by
  change ((Rect.unit (s := S2048x16384) ![256 * i.val, 8192 * h.val] S256x8192.size (inbOut h i)).emb x 0).val = _
  rw [Rect.emb_apply]; simp [Rect.unit]
theorem oIdx_col (h : Fin 2) (i : Fin 8) (x : S256x8192.Idx) : (oIdx h i x 1).val = 8192 * h.val + (x 1).val := by
  change ((Rect.unit (s := S2048x16384) ![256 * i.val, 8192 * h.val] S256x8192.size (inbOut h i)).emb x 1).val = _
  rw [Rect.emb_apply]; simp [Rect.unit]

theorem outW_oIdx (c : Dev nD) (h : Fin 2) (i : Fin 8) (x : S256x8192.Idx) :
    outW E S c (oIdx h i x) = scaled (tile (src E c h) i) (rows (recip S c) i) x := by
  have x0 : (x 0).val < 256 := (x 0).isLt
  have x1 : (x 1).val < 8192 := (x 1).isLt
  have h0 := oIdx_row h i x
  have h1 := oIdx_col h i x
  unfold outW src
  have e1 : tileOf (oIdx h i x 0).val (oIdx h i x 0).isLt = i := Fin.ext (by show _ / 256 = _; rw [h0]; omega)
  rw [e1]
  have e2 : ((oIdx h i x 1).val / 8192 = (half c).val) = (h = half c) := by
    rw [h1]; exact propext ⟨fun hh => Fin.ext (by omega), fun hh => by have := congrArg Fin.val hh; omega⟩
  simp only [e2]
  refine congrArg _ ?_
  funext a
  match a with
  | ⟨0, _⟩ => exact Fin.ext (by show (oIdx h i x 0).val % 256 = (x 0).val; rw [h0]; omega)
  | ⟨1, _⟩ => exact Fin.ext (by show (oIdx h i x 1).val % 8192 = (x 1).val; rw [h1]; omega)

theorem outW_tile (c : Dev nD) (h : Fin 2) (i : Fin 8) (g : OBuf F) (j : Idx ((oT h i).view.loc (c : Thread nD τ))) (hj : j ∈ (oT h i).view.set) :
    (oT h i).view.write (Elt F) g (scaled (tile (src E c h) i) (rows (recip S c) i)) Finset.univ j = outW E S c j := by
  obtain ⟨x, -, rfl⟩ := Finset.mem_map.mp hj
  exact (View.write_emb_of_mem (v := (oT h i).view) _ _ (Finset.mem_univ x)).trans (outW_oIdx E S c h i x).symm

/-! ## The exchange's own steps -/

/-- What every step may consult. -/
def Facts (K : GSem nD τ sig → ℕ) (c : Dev nD) : sProp 𝕄 :=
  iprop(levAts L lv ∗ Inv E S K ∗ (bigSep Finset.univ fun i : Fin 8 => reached ER (dCell c (sS i)) 0)
    ∗ bigSep Finset.univ fun i : Fin 8 => reached ER (dCell (nbr c) (sR i)) 0)

instance Facts_persistent (K : GSem nD τ sig → ℕ) (c : Dev nD) : BI.Persistent (Facts E S K c) := by unfold Facts; infer_instance

/-- Row tile `i` of the receiving buffer once the neighbour's tile has landed. -/
theorem landed (c c' : Dev nD) (i : Fin 8) (f : EBuf F) (j : Idx ((rT i).view.loc (c' : Thread nD τ))) (hj : j ∈ (rT i).view.set) :
    (rT i).view.write (Elt F) f (buf.view.read (Elt F) (tile (E c) i)) Finset.univ j = E c j := by
  obtain ⟨x, -, rfl⟩ := Finset.mem_map.mp hj
  exact View.write_emb_of_mem (v := (rT i).view) _ _ (Finset.mem_univ x)

theorem rS_at (c : Dev nD) (i : Fin 8) :
    (bigSep Finset.univ fun i : Fin 8 => (reached ER (dCell c (sS i)) 0 : sProp 𝕄)) ⊢ reached ER (dCell c (sS i)) 0 :=
  bigSep_elim (Finset.mem_univ i)
theorem rR_at (c : Dev nD) (i : Fin 8) :
    (bigSep Finset.univ fun i : Fin 8 => (reached ER (dCell c (sR i)) 0 : sProp 𝕄)) ⊢ reached ER (dCell c (sR i)) 0 :=
  bigSep_elim (Finset.mem_univ i)

theorem sendP_spec (K : GSem nD τ sig → ℕ) (c : Dev nD) (i : Fin 8) (Q : PUnit → sProp 𝕄) :
    iprop((Facts E S K c ∗ bP c fullShare.left (tile (E c) i) ∗ (∃ f, rP (nbr c) i f) ∗ dutyTok ER (dCell c (sS i)) 0 ()
        ∗ dutyTok ER (dCell (nbr c) (sR i)) 0 () ∗ ∃ W, owes (c : Thread nD τ) (owed c i.val) W)
      ∗ ((cred (tallyAt (dCell c (sS i)) () N) ∗ ∃ W, owes (c : Thread nD τ) (owed c (i.val + 1)) W) -∗ Q ⟨⟩))
      ⊢ WP c (sendP (nbr c) i) Q := by
  unfold Facts
  show _ ⊢ wp frame _ Set.univ (.op _ .ret) Q
  iintro ⟨⟨⟨#Hlev, #HI, #HrS, #HrR⟩, Hb, ⟨%f, Hr⟩, HtS, HtR, ⟨%W, HO⟩⟩, HQ⟩
  ihave #HIs := (inv_sS E S K c i) $$ HI
  ihave #HIr := (inv_sR E S K (nbr c) i) $$ HI
  ihave #Hrs := (rS_at c i) $$ HrS
  ihave #Hrr := (rR_at (nbr c) i) $$ HrR
  iapply (Rounds.wp_send_pointsTo 𝒱₀ ER (Rd E S) (c : Thread nD τ) none (c' := (nbr c : Thread nD τ)) (src := buf) (dst := rT i)
      (sS := .dma (sS i)) (sem := .dma (sR i)) (q := fullShare.left) (fs := tile (E c) i) (κ₁ := K (dCell c (sS i))) (κ₂ := K (dCell (nbr c) (sR i)))
      (r₁ := 0) (r₂ := 0) (d₁ := ()) (d₂ := ()) (fd := f)
      (mem_duties E S (talk_sS c i)) (mem_duties E S (talk_sR (nbr c) i))
      () () N rfl (amount_sS E S c i ()) (amount_sR E S (nbr c) i ()) (owed c (i.val + 1)) (owed_peel c i) (W := W)
      (by rw [payload_sS]) (by rw [payload_sR, nbr_nbr]; exact Entails.of_eq (pointsTo_congr fun j hj => landed E c (nbr c) i f j hj)))
    $$ [Hb Hr HO HtS HtR]
  · isplitr; · iexact HIs
    isplitr; · iexact HIr
    isplitl [Hb]; · iexact Hb
    isplitl [Hr]; · iexact Hr
    isplitl [HO]; · iexact HO
    isplitl [HtS]; · iexact HtS
    isplitr; · iexact Hrs
    isplitl [HtR]; · iexact HtR
    iexact Hrr
  iintro ⟨Hc, HO⟩
  rw [wp_ret]
  imodintro
  iapply HQ
  isplitl [Hc]; · iexact Hc
  iexists _; iexact HO

/-- The waits for a landing of the size of a row tile, and of the row sums. -/
theorem waits_sS (c : Dev nD) (i : Fin 8) (Kt : PUnit → sProp 𝕄) :
    wpE (defs₀ (F := F)) 𝒱₀ (c : Thread nD τ) none Set.univ (.waitDma2 (sS i) (rT i) buf (rT_words i) (Memref.isWhole_whole _).wordExact) Kt
      = waitSpec (c : Thread nD τ) Set.univ (.dma (sS i)) N Kt :=
  wpE_waitDma2_eq (src := rT i) (dst := buf) 𝒱₀ (c : Thread nD τ) none Set.univ Kt
theorem waits_sR (c : Dev nD) (i : Fin 8) (Kt : PUnit → sProp 𝕄) :
    wpE (defs₀ (F := F)) 𝒱₀ (c : Thread nD τ) none Set.univ (.waitDma2 (sR i) buf (rT i) (Memref.isWhole_whole _).wordExact (rT_words i)) Kt
      = waitSpec (c : Thread nD τ) Set.univ (.dma (sR i)) N Kt :=
  wpE_waitDma2_eq (src := buf) (dst := rT i) 𝒱₀ (c : Thread nD τ) none Set.univ Kt

theorem wsP_spec (K : GSem nD τ sig → ℕ) (c : Dev nD) (i : Fin 8) (n : ℕ) (Q : PUnit → sProp 𝕄) :
    iprop((Facts E S K c ∗ cred (tallyAt (dCell c (sS i)) () N) ∗ atPos ER (dCell c (sS i)) 0 ∅ 0 ∗ bP c fullShare.right (tile (E c) i)
        ∗ ∃ W, owes (c : Thread nD τ) (owed c n) W)
      ∗ ((atPos ER (dCell c (sS i)) 1 ∅ 0 ∗ (∃ g, bP c fullShare g) ∗ ∃ W, owes (c : Thread nD τ) (owed c n) W) -∗ Q ⟨⟩))
      ⊢ WP c (wsP i) Q := by
  unfold Facts
  show _ ⊢ wp frame _ Set.univ (.op _ .ret) Q
  iintro ⟨⟨⟨#Hlev, #HI, -, -⟩, Hc, Ha, Hb, ⟨%W, HO⟩⟩, HQ⟩
  ihave #HIs := (inv_sS E S K c i) $$ HI
  iapply (Rounds.wp_wait_rest_token 𝒱₀ ER (Rd E S) (c : Thread nD τ) none (κ := K (dCell c (sS i)))
      (waits_sS c i) (Set.mem_univ _) () (O := owed c n) (W := W) (R := 0) (m := 0) (T := ∅)
      ((Nat.zero_add _).trans ((expect_of E S (talk_sS c i)).trans (amount_sS E S c i ())).symm)) $$ [Hc HO Ha]
  · isplitr; · iexact HIs
    isplitl [Hc]; · iexact Hc
    isplitl [HO]; · iexact HO
    isplitr
    · iapply (mayWait_owed c (.dma (sS i)) n (by rw [lv_low c (sS i) (by rw [sS_val]; omega)]; omega)); iexact Hlev
    iexact Ha
  iintro ⟨HO, Ha, -, Hpay⟩
  ihave Hl := (Entails.of_eq ((rest_of E S (talk_sS c i)).trans (payload_sS E S c i ()))) $$ Hpay
  rw [wp_ret]
  imodintro
  iapply HQ
  isplitl [Ha]; · iexact Ha
  isplitl [Hl Hb]
  · iexists _
    iapply (pointsTo_share (PosShare.mem_left_op_right fullShare)).2
    isplitl [Hl] <;> iassumption
  iexists _; iexact HO

/-- The local half of taking in a tile: the copy from the receiving buffer. -/
theorem rlP_spec (c : Dev nD) (i : Fin 8) (f : EBuf F) (O : CellTallies nD τ sig Unit) (W : Waits sig Unit)
    (hO : (levAts L lv : sProp 𝕄) ⊢ MayWait (c : Thread nD τ) (.dma rlS) () O) (Q : PUnit → sProp 𝕄) :
    iprop((levAts L lv ∗ semVal (dCell c rlS) 0 ∗ rP c i f ∗ (∃ g, rbuf.view.loc (c : Thread nD τ) ↦[rbuf.view.set]{fullShare} g) ∗ owes (c : Thread nD τ) O W)
      ∗ ((semVal (dCell c rlS) 0 ∗ rP c i f ∗ (rbuf.view.loc (c : Thread nD τ) ↦[rbuf.view.set]{fullShare} tile f i)
          ∗ ∃ W, owes (c : Thread nD τ) O W) -∗ Q ⟨⟩))
      ⊢ WP c (do
        Prog.lift (.enqueueDma (rT i) (.here rbuf) (.dma cc1_scratch9.sem) (rT_words i) (Memref.isWhole_whole _).wordExact ⟨Or.inl rfl, trivial⟩)
        Prog.lift (.waitDma2 cc1_scratch9.sem (rT i) rbuf (rT_words i) (Memref.isWhole_whole _).wordExact)) Q := by
  unfold WP
  iintro ⟨⟨#Hlev, Hs, He, ⟨%g, Hb⟩, HO⟩, HQ⟩
  ihave #Hmw := hO $$ Hlev
  sl_exec
  rw [wp_ret]
  imodintro
  iapply HQ
  isplitl [Hs]; · iexact Hs
  isplitl [He]; · iexact He
  isplitl [Hb]
  · iapply (Entails.of_eq (pointsTo_congr fun j _ => ?_)) $$ Hb
    unfold rlP_spec.sl.dma0
    exact (congrFun (View.write_univ_eq_writes_whole rbuf.view g [] _) j).symm.trans (by rw [View.write_whole_univ]; rfl)
  iexists _; iexact HO

theorem rcvP_spec (K : GSem nD τ sig → ℕ) (c : Dev nD) (i : Fin 8) (n : ℕ) (hn : i.val + 1 ≤ n) (Q : PUnit → sProp 𝕄) :
    iprop((Facts E S K c ∗ cred (tallyAt (dCell c (sR i)) () N) ∗ atPos ER (dCell c (sR i)) 0 ∅ 0
        ∗ semVal (dCell c rlS) 0 ∗ (∃ g, rbuf.view.loc (c : Thread nD τ) ↦[rbuf.view.set]{fullShare} g)
        ∗ ∃ W, owes (c : Thread nD τ) (owed c n) W)
      ∗ ((atPos ER (dCell c (sR i)) 1 ∅ 0 ∗ rP c i (E (nbr c)) ∗ semVal (dCell c rlS) 0
        ∗ (rbuf.view.loc (c : Thread nD τ) ↦[rbuf.view.set]{fullShare} tile (E (nbr c)) i) ∗ ∃ W, owes (c : Thread nD τ) (owed c n) W) -∗ Q ⟨⟩))
      ⊢ WP c (rcvP i) Q := by
  unfold Facts
  show _ ⊢ wp frame _ Set.univ (.op _ fun _ => (.op _ fun _ => .op _ .ret)) Q
  iintro ⟨⟨⟨#Hlev, #HI, -, -⟩, Hc, Ha, Hs, ⟨%g, Hb⟩, ⟨%W, HO⟩⟩, HQ⟩
  ihave #HIr := (inv_sR E S K c i) $$ HI
  iapply (Rounds.wp_wait_rest_token 𝒱₀ ER (Rd E S) (c : Thread nD τ) none (κ := K (dCell c (sR i)))
      (waits_sR c i) (Set.mem_univ _) () (O := owed c n) (W := W) (R := 0) (m := 0) (T := ∅)
      ((Nat.zero_add _).trans ((expect_of E S (talk_sR c i)).trans (amount_sR E S c i ())).symm)) $$ [Hc HO Ha]
  · isplitr; · iexact HIr
    isplitl [Hc]; · iexact Hc
    isplitl [HO]; · iexact HO
    isplitr
    · iapply (mayWait_owed c (.dma (sR i)) n (by rw [lv_sR]; omega)); iexact Hlev
    iexact Ha
  iintro ⟨HO, Ha, -, Hpay⟩
  ihave Hr := (Entails.of_eq ((rest_of E S (talk_sR c i)).trans (payload_sR E S c i ()))) $$ Hpay
  iapply (rlP_spec c i (E (nbr c)) (owed c n) _ (mayWait_owed c (.dma rlS) n (by rw [lv_low c rlS (by rw [rlS_val]; omega)]; omega)) Q)
  isplitl [Hr Hs Hb HO]
  · isplitr; · iexact Hlev
    isplitl [Hs]; · iexact Hs
    isplitl [Hr]; · iexact Hr
    isplitl [Hb]; · iexists g; iexact Hb
    iexact HO
  iintro ⟨Hs, Hr, Hb, HO⟩
  iapply HQ
  isplitl [Ha]; · iexact Ha
  isplitl [Hr]; · iexact Hr
  isplitl [Hs]; · iexact Hs
  isplitl [Hb]; · iexact Hb
  iexact HO

end Cert.KernelIdeal.Ex
-- ==== Proof.Branch.lean ====
/- The branch of the exchange: its trips, one after the other. -/
module

public import proofs.«01_k».proof.Proof.Comm
public import Idealize.ShloMosaic.Lib.Exec

@[expose] public section

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (E : Dev nD → EBuf F) (S : Dev nD → SBuf F)

/-! ## What is held of each tile -/

/-- Before tile `i` is taken up: the duties of sending it, the place it goes to at the neighbour and here. -/
def OwnTodo (c : Dev nD) (i : Fin 8) : sProp 𝕄 :=
  iprop(dutyTok ER (dCell c (sS i)) 0 () ∗ dutyTok ER (dCell (nbr c) (sR i)) 0 () ∗ (∃ f, rP (nbr c) i f)
    ∗ atPos ER (dCell c (sS i)) 0 ∅ 0 ∗ (∃ f, oP c (half c) i f) ∗ eP c i (E c))
/-- While it is being sent. -/
def OwnMid (c : Dev nD) (i : Fin 8) : sProp 𝕄 :=
  iprop(cred (tallyAt (dCell c (sS i)) () N) ∗ atPos ER (dCell c (sS i)) 0 ∅ 0 ∗ bP c fullShare.right (tile (E c) i)
    ∗ oP c (half c) i (outW E S c) ∗ eP c i (E c))
/-- Once it is sent and stored. -/
def OwnDone (c : Dev nD) (i : Fin 8) : sProp 𝕄 :=
  iprop(atPos ER (dCell c (sS i)) 1 ∅ 0 ∗ oP c (half c) i (outW E S c) ∗ eP c i (E c))
/-- Before the neighbour's tile `i` is taken in. -/
def RcvTodo (c : Dev nD) (i : Fin 8) : sProp 𝕄 :=
  iprop(cred (tallyAt (dCell c (sR i)) () N) ∗ atPos ER (dCell c (sR i)) 0 ∅ 0 ∗ ∃ f, oP c (half' c) i f)
/-- Once it is stored. -/
def RcvDone (c : Dev nD) (i : Fin 8) : sProp 𝕄 :=
  iprop(atPos ER (dCell c (sR i)) 1 ∅ 0 ∗ rP c i (E (nbr c)) ∗ oP c (half' c) i (outW E S c))
/-- What every step uses and gives back. -/
def Common (c : Dev nD) : sProp 𝕄 :=
  iprop(semVal (dCell c ldS) 0 ∗ semVal (dCell c rlS) 0 ∗ (bigSep Finset.univ fun i : Fin 8 => semVal (dCell c (sT i)) 0)
    ∗ (∃ g, rbuf.view.loc (c : Thread nD τ) ↦[rbuf.view.set]{fullShare} g) ∗ (∃ g, stb.view.loc (c : Thread nD τ) ↦[stb.view.set]{fullShare} g)
    ∗ (rcp.view.loc (c : Thread nD τ) ↦[rcp.view.set]{fullShare} recip S c))

/-! ## One piece out of a family -/

theorem fam_take {A B : Fin 8 → sProp 𝕄} (i : Fin 8) (n : ℕ) (hn : i.val = n) :
    (bigSep Finset.univ fun j : Fin 8 => if j.val < n then B j else A j)
      ⊢ iprop(A i ∗ (B i -∗ bigSep Finset.univ fun j : Fin 8 => if j.val < n + 1 then B j else A j)) := by
  subst hn
  rw [bigSep_univ_at _ i, bigSep_univ_at (fun j : Fin 8 => if j.val < i.val + 1 then B j else A j) i,
    if_neg (Nat.lt_irrefl _), if_pos (Nat.lt_succ_self _),
    bigSep_congr (s := Finset.univ.erase i) (Ψ := fun j : Fin 8 => if j.val < i.val + 1 then B j else A j) fun j hj => by
      have hne : j.val ≠ i.val := fun h => Finset.ne_of_mem_erase hj (Fin.ext h)
      exact if_congr (by omega) rfl rfl]
  iintro ⟨HA, Hrest⟩
  isplitl [HA]; · iexact HA
  iintro HB
  isplitl [HB] <;> iassumption

theorem fam_keep {A : Fin 8 → sProp 𝕄} (i : Fin 8) : bigSep Finset.univ A ⊢ iprop(A i ∗ (A i -∗ bigSep Finset.univ A)) := by
  rw [bigSep_univ_at _ i]
  iintro ⟨HA, Hrest⟩
  isplitl [HA]; · iexact HA
  iintro HB
  isplitl [HB] <;> iassumption

/-! ## The steps put together -/

theorem WP_seq (c : Dev nD) (p q : P F PUnit) {Q : PUnit → sProp 𝕄} : WP c p (fun _ => WP c q Q) ⊢ WP c (do p; q) Q :=
  Entails.of_eq (Idealize.SL.Sem.wp_bind _ _ _ p (fun _ => q) Q).symm

theorem facts_lev (K : GSem nD τ sig → ℕ) (c : Dev nD) : Facts E S K c ⊢ iprop(levAts L lv ∗ Inv E S K) := by
  unfold Facts
  iintro ⟨#H, #H', -⟩
  isplitr <;> iassumption

theorem half_ne (c : Dev nD) : half' c ≠ half c := by
  revert c; decide
theorem src_half (c : Dev nD) : src E c (half c) = E c := if_pos rfl
theorem src_half' (c : Dev nD) : src E c (half' c) = E (nbr c) := if_neg (half_ne c)

theorem mayWait_sT (c : Dev nD) (i : Fin 8) (n : ℕ) :
    (levAts L lv : sProp 𝕄) ⊢ MayWait (c : Thread nD τ) (.dma (sT i)) () (owed c n) :=
  mayWait_owed c (.dma (sT i)) n (by rw [lv_low c (sT i) (by rw [sT_val]; have := i.isLt; omega)]; omega)

set_option maxRecDepth 4096 in
theorem ownP_spec (K : GSem nD τ sig → ℕ) (c : Dev nD) (i : Fin 8) (Q : PUnit → sProp 𝕄) :
    iprop((Facts E S K c ∗ OwnTodo E c i ∗ Common S c ∗ (∃ g, bP c fullShare g) ∗ ∃ W, owes (c : Thread nD τ) (owed c i.val) W)
      ∗ ((OwnMid E S c i ∗ Common S c ∗ ∃ W, owes (c : Thread nD τ) (owed c (i.val + 1)) W) -∗ Q ⟨⟩))
      ⊢ WP c (ownP (nbr c) (half c) i) Q := by
  unfold ownP OwnTodo OwnMid Common
  iintro ⟨⟨#HF, ⟨HtS, HtR, Hr, Ha, Ho, He⟩, ⟨Hld, Hrl, HsT, Hrb, Hst, Hrc⟩, Hb, ⟨%W, HO⟩⟩, HQ⟩
  ihave Hlev0 := (facts_lev E S K c) $$ HF
  icases Hlev0 with ⟨#Hlev, #HI⟩
  iapply (WP_seq c _ _)
  iapply (ldP_spec c i (E c) (owed c i.val) W (mayWait_owed c (.dma ldS) i.val (by rw [lv_low c ldS (by rw [ldS_val]; omega)]; omega)))
  isplitl [Hld He Hb HO]
  · isplitr; · iexact Hlev
    isplitl [Hld]; · iexact Hld
    isplitl [He]; · iexact He
    isplitl [Hb] <;> iassumption
  iintro ⟨Hld, He, Hb, HO⟩
  ihave Hbb := (pointsTo_share (PosShare.mem_left_op_right fullShare)).1 $$ Hb
  icases Hbb with ⟨Hl, Hb⟩
  iapply (WP_seq c _ _)
  iapply (sendP_spec E S K c i)
  isplitl [Hl Hr HtS HtR HO]
  · isplitr; · iexact HF
    isplitl [Hl]; · iexact Hl
    isplitl [Hr]; · iexact Hr
    isplitl [HtS]; · iexact HtS
    isplitl [HtR] <;> iassumption
  iintro ⟨Hc, ⟨%W', HO⟩⟩
  ihave Hs2 := (fam_keep (A := fun i : Fin 8 => semVal (dCell c (sT i)) 0) i) $$ HsT
  icases Hs2 with ⟨Hs, HsT⟩
  iapply (outP_spec c buf fullShare.right (tile (E c) i) (half c) i (recip S c) (owed c (i.val + 1)) W' (mayWait_sT c i _))
  isplitl [Hs Hb Hst Hrc Ho HO]
  · isplitr; · iexact Hlev
    isplitl [Hs]; · iexact Hs
    isplitl [Hb]; · iexact Hb
    isplitl [Hst]; · iexact Hst
    isplitl [Hrc]; · iexact Hrc
    isplitl [Ho] <;> iassumption
  iintro ⟨Hs, Hb, Hst, Hrc, ⟨%g, Ho⟩, HO⟩
  iapply HQ
  isplitl [Hc Ha Hb Ho He]
  · isplitl [Hc]; · iexact Hc
    isplitl [Ha]; · iexact Ha
    isplitl [Hb]; · iexact Hb
    isplitl [Ho]
    · iapply (Entails.of_eq (pointsTo_congr fun j hj => ?_)) $$ Ho
      exact (congrArg (fun t => (oT (half c) i).view.write (Elt F) g (scaled (tile t i) (rows (recip S c) i)) Finset.univ j) (src_half E c).symm).trans
        (outW_tile E S c (half c) i g j hj)
    iexact He
  isplitl [Hld Hrl HsT Hrb Hst Hrc Hs]
  · isplitl [Hld]; · iexact Hld
    isplitl [Hrl]; · iexact Hrl
    isplitl [HsT Hs]; · iapply HsT; iexact Hs
    isplitl [Hrb]; · iexact Hrb
    isplitl [Hst] <;> iassumption
  iexact HO

set_option maxRecDepth 4096 in
theorem inP_spec (K : GSem nD τ sig → ℕ) (c : Dev nD) (i : Fin 8) (n : ℕ) (hn : i.val + 1 ≤ n) (Q : PUnit → sProp 𝕄) :
    iprop((Facts E S K c ∗ RcvTodo c i ∗ Common S c ∗ ∃ W, owes (c : Thread nD τ) (owed c n) W)
      ∗ ((RcvDone E S c i ∗ Common S c ∗ ∃ W, owes (c : Thread nD τ) (owed c n) W) -∗ Q ⟨⟩))
      ⊢ WP c (inP (half' c) i) Q := by
  unfold inP RcvTodo RcvDone Common
  iintro ⟨⟨#HF, ⟨Hc, Ha, Ho⟩, ⟨Hld, Hrl, HsT, Hrb, Hst, Hrc⟩, HO⟩, HQ⟩
  ihave Hlev0 := (facts_lev E S K c) $$ HF
  icases Hlev0 with ⟨#Hlev, #HI⟩
  iapply (WP_seq c _ _)
  iapply (rcvP_spec E S K c i n hn)
  isplitl [Hc Ha Hrl Hrb HO]
  · isplitr; · iexact HF
    isplitl [Hc]; · iexact Hc
    isplitl [Ha]; · iexact Ha
    isplitl [Hrl]; · iexact Hrl
    isplitl [Hrb] <;> iassumption
  iintro ⟨Ha, Hr, Hrl, Hrb, ⟨%W', HO⟩⟩
  ihave Hs2 := (fam_keep (A := fun i : Fin 8 => semVal (dCell c (sT i)) 0) i) $$ HsT
  icases Hs2 with ⟨Hs, HsT⟩
  iapply (outP_spec c rbuf fullShare (tile (E (nbr c)) i) (half' c) i (recip S c) (owed c n) W' (mayWait_sT c i _))
  isplitl [Hs Hrb Hst Hrc Ho HO]
  · isplitr; · iexact Hlev
    isplitl [Hs]; · iexact Hs
    isplitl [Hrb]; · iexact Hrb
    isplitl [Hst]; · iexact Hst
    isplitl [Hrc]; · iexact Hrc
    isplitl [Ho] <;> iassumption
  iintro ⟨Hs, Hrb, Hst, Hrc, ⟨%g, Ho⟩, HO⟩
  iapply HQ
  isplitl [Ha Hr Ho]
  · isplitl [Ha]; · iexact Ha
    isplitl [Hr]; · iexact Hr
    iapply (Entails.of_eq (pointsTo_congr fun j hj => ?_)) $$ Ho
    exact (congrArg (fun t => (oT (half' c) i).view.write (Elt F) g (scaled (tile t i) (rows (recip S c) i)) Finset.univ j) (src_half' E c).symm).trans
      (outW_tile E S c (half' c) i g j hj)
  isplitl [Hld Hrl HsT Hrb Hst Hrc Hs]
  · isplitl [Hld]; · iexact Hld
    isplitl [Hrl]; · iexact Hrl
    isplitl [HsT Hs]; · iapply HsT; iexact Hs
    isplitl [Hrb]; · iexists _; iexact Hrb
    isplitl [Hst] <;> iassumption
  iexact HO

/-! ## The trips -/

/-- `n` tiles sent and stored, `k` taken in. -/
def St (c : Dev nD) (n k : ℕ) : sProp 𝕄 :=
  iprop((bigSep Finset.univ fun j : Fin 8 => if j.val < n then OwnDone E S c j else OwnTodo E c j)
    ∗ (bigSep Finset.univ fun j : Fin 8 => if j.val < k then RcvDone E S c j else RcvTodo c j)
    ∗ Common S c ∗ (∃ g, bP c fullShare g) ∗ ∃ W, owes (c : Thread nD τ) (owed c n) W)

/-- Tile `i`, and between its store and the end of its sending whatever `p` does. -/
theorem trip_spec (K : GSem nD τ sig → ℕ) (c : Dev nD) (i : Fin 7) (Q : PUnit → sProp 𝕄) :
    iprop((Facts E S K c ∗ St E S c (i.val + 1) i.val) ∗ (St E S c (i.val + 2) (i.val + 1) -∗ Q ⟨⟩))
      ⊢ WP c (tripP (nbr c) (half c) (half' c) i) Q := by
  unfold tripP St
  iintro ⟨⟨#HF, HA, HB, HC, Hb, HO⟩, HQ⟩
  ihave HA2 := (fam_take (A := OwnTodo E c) (B := OwnDone E S c) i.succ (i.val + 1) (by simp)) $$ HA
  icases HA2 with ⟨Hi, HA⟩
  iapply (WP_seq c _ _)
  iapply (ownP_spec E S K c i.succ)
  isplitl [Hi HC Hb HO]
  · isplitr; · iexact HF
    isplitl [Hi]; · iexact Hi
    isplitl [HC]; · iexact HC
    isplitl [Hb]; · iexact Hb
    iexact HO
  unfold OwnMid
  iintro ⟨⟨Hc, Ha, Hb, Ho, He⟩, HC, HO⟩
  ihave HB2 := (fam_take (A := RcvTodo c) (B := RcvDone E S c) i.castSucc i.val (by simp)) $$ HB
  icases HB2 with ⟨Hi, HB⟩
  iapply (WP_seq c _ _)
  iapply (inP_spec E S K c i.castSucc (i.succ.val + 1) (by simp))
  isplitl [Hi HC HO]
  · isplitr; · iexact HF
    isplitl [Hi]; · iexact Hi
    isplitl [HC] <;> iassumption
  iintro ⟨Hi, HC, HO⟩
  iapply (wsP_spec E S K c i.succ (i.succ.val + 1))
  isplitl [Hc Ha Hb HO]
  · isplitr; · iexact HF
    isplitl [Hc]; · iexact Hc
    isplitl [Ha]; · iexact Ha
    isplitl [Hb]; · iexact Hb
    iexact HO
  iintro ⟨Ha, Hb, HO⟩
  iapply HQ
  isplitl [HA Ha Ho He]
  · iapply HA
    unfold OwnDone
    isplitl [Ha]; · iexact Ha
    isplitl [Ho] <;> iassumption
  isplitl [HB Hi]; · iapply HB; iexact Hi
  isplitl [HC]; · iexact HC
  isplitl [Hb]; · iexact Hb
  iexact HO

theorem first_spec (K : GSem nD τ sig → ℕ) (c : Dev nD) {D : sProp 𝕄} {q : P F PUnit}
    (hq : ∀ Q : PUnit → sProp 𝕄, iprop((Facts E S K c ∗ St E S c 1 0) ∗ (D -∗ Q ⟨⟩)) ⊢ WP c q Q) (Q : PUnit → sProp 𝕄) :
    iprop((Facts E S K c ∗ St E S c 0 0) ∗ (D -∗ Q ⟨⟩))
      ⊢ WP c (do ownP (nbr c) (half c) 0; wsP 0; q) Q := by
  unfold St at hq ⊢
  iintro ⟨⟨#HF, HA, HB, HC, Hb, HO⟩, HQ⟩
  ihave HA2 := (fam_take (A := OwnTodo E c) (B := OwnDone E S c) 0 0 rfl) $$ HA
  icases HA2 with ⟨Hi, HA⟩
  iapply (WP_seq c _ _)
  iapply (ownP_spec E S K c 0)
  isplitl [Hi HC Hb HO]
  · isplitr; · iexact HF
    isplitl [Hi]; · iexact Hi
    isplitl [HC]; · iexact HC
    isplitl [Hb]; · iexact Hb
    iexact HO
  unfold OwnMid
  iintro ⟨⟨Hc, Ha, Hb, Ho, He⟩, HC, HO⟩
  iapply (WP_seq c _ _)
  iapply (wsP_spec E S K c 0 1)
  isplitl [Hc Ha Hb HO]
  · isplitr; · iexact HF
    isplitl [Hc]; · iexact Hc
    isplitl [Ha]; · iexact Ha
    isplitl [Hb]; · iexact Hb
    iexact HO
  iintro ⟨Ha, Hb, HO⟩
  iapply (hq _)
  isplitr [HQ]
  swap; · iexact HQ
  isplitr; · iexact HF
  isplitl [HA Ha Ho He]
  · iapply HA
    unfold OwnDone
    isplitl [Ha]; · iexact Ha
    isplitl [Ho] <;> iassumption
  isplitl [HB]; · iexact HB
  isplitl [HC]; · iexact HC
  isplitl [Hb]; · iexact Hb
  iexact HO

theorem last_spec (K : GSem nD τ sig → ℕ) (c : Dev nD) (Q : PUnit → sProp 𝕄) :
    iprop((Facts E S K c ∗ St E S c 8 7) ∗ (St E S c 8 8 -∗ Q ⟨⟩)) ⊢ WP c (inP (half' c) 7) Q := by
  unfold St
  iintro ⟨⟨#HF, HA, HB, HC, Hb, HO⟩, HQ⟩
  ihave HB2 := (fam_take (A := RcvTodo c) (B := RcvDone E S c) 7 7 rfl) $$ HB
  icases HB2 with ⟨Hi, HB⟩
  iapply (inP_spec E S K c 7 8 (by decide))
  isplitl [Hi HC HO]
  · isplitr; · iexact HF
    isplitl [Hi]; · iexact Hi
    isplitl [HC] <;> iassumption
  iintro ⟨Hi, HC, HO⟩
  iapply HQ
  isplitl [HA]; · iexact HA
  isplitl [HB Hi]; · iapply HB; iexact Hi
  isplitl [HC]; · iexact HC
  isplitl [Hb]; · iexact Hb
  iexact HO

theorem seq_spec (K : GSem nD τ sig → ℕ) (c : Dev nD) {A B D : sProp 𝕄} {p q : P F PUnit}
    (hp : ∀ Q : PUnit → sProp 𝕄, iprop((Facts E S K c ∗ A) ∗ (B -∗ Q ⟨⟩)) ⊢ WP c p Q)
    (hq : ∀ Q : PUnit → sProp 𝕄, iprop((Facts E S K c ∗ B) ∗ (D -∗ Q ⟨⟩)) ⊢ WP c q Q) (Q : PUnit → sProp 𝕄) :
    iprop((Facts E S K c ∗ A) ∗ (D -∗ Q ⟨⟩)) ⊢ WP c (do p; q) Q := by
  iintro ⟨⟨#HF, HA⟩, HQ⟩
  iapply (WP_seq c _ _)
  iapply (hp _)
  isplitl [HA]
  · isplitr; · iexact HF
    iexact HA
  iintro HB
  iapply (hq _)
  isplitl [HB]
  · isplitr; · iexact HF
    iexact HB
  iexact HQ

set_option maxRecDepth 65536 in
theorem branch_spec (K : GSem nD τ sig → ℕ) (c : Dev nD) (Q : PUnit → sProp 𝕄) :
    iprop((Facts E S K c ∗ St E S c 0 0) ∗ (St E S c 8 8 -∗ Q ⟨⟩)) ⊢ WP c (branchP (nbr c) (half c) (half' c)) Q :=
  first_spec E S K c (seq_spec E S K c (trip_spec E S K c 0) (seq_spec E S K c (trip_spec E S K c 1)
    (seq_spec E S K c (trip_spec E S K c 2) (seq_spec E S K c (trip_spec E S K c 3) (seq_spec E S K c (trip_spec E S K c 4)
    (seq_spec E S K c (trip_spec E S K c 5) (seq_spec E S K c (trip_spec E S K c 6) (last_spec E S K c)))))))) Q

end Cert.KernelIdeal.Ex
-- ==== Proof.Head.lean ====
/- The head of the exchange: the handshake with the neighbour, the row sums sent to it, the reciprocals. -/
module

public import proofs.«01_k».proof.Proof.Branch
public import Idealize.ShloMosaic.Lib.Exec

@[expose] public section

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (E : Dev nD → EBuf F) (S : Dev nD → SBuf F)

theorem nbr_two (c : Dev nD) : (⟨k1_dev2 c, k1_dev2_lt c⟩ : Dev nD) = nbr c := by
  revert c; decide

/-- Signal the neighbour: its buffers and open receive cells go along. -/
theorem sig_spec (K : GSem nD τ sig → ℕ) (c : Dev nD) (W : Waits sig Unit) (Q : PUnit → sProp 𝕄) :
    iprop((Inv E S K ∗ owes (c : Thread nD τ) (O₀ c) W ∗ dutyTok ER (barCell (nbr c)) 0 ()
        ∗ ((∃ f, nP c f) ∗ (bigSep Finset.univ fun i : Fin 8 => iprop(∃ f, rP c i f))
          ∗ reached ER (dCell c srS) 0 ∗ bigSep Finset.univ fun i : Fin 8 => reached ER (dCell c (sR i)) 0)
        ∗ reached ER (barCell (nbr c)) 0)
      ∗ (owes (c : Thread nD τ) (owedS c) W -∗ Q ⟨⟩))
      ⊢ WP c (semSignalWord (nbr c) barrier0 1#32) Q := by
  show _ ⊢ wp frame _ Set.univ (.op (TpuEff.semSignal (nbr c : Thread nD τ) barrier0 ((1 : ℕ) : ℤ)) .ret) Q
  iintro ⟨⟨#HI, HO, Ht, Hp, #Hr⟩, HQ⟩
  ihave #HIb := (inv_bar E S K (nbr c)) $$ HI
  iapply (Rounds.wp_signal 𝒱₀ ER (Rd E S) (c : Thread nD τ) none (dst := (nbr c : Thread nD τ)) (sem := barrier0) (r := 0) (d := ()) (κ := K (barCell (nbr c)))
      (mem_duties E S (talk_bar (nbr c))) (amount_bar E S (nbr c) ()) () (owedS c) rfl)
    $$ [HO Ht Hp]
  · isplitr; · iexact HIb
    isplitl [HO]; · iexact HO
    isplitl [Ht]; · iexact Ht
    isplitl [Hp]
    · rw [payload_bar]; unfold barPay; rw [nbr_nbr]
      iexact Hp
    iexact Hr
  iintro HO
  rw [wp_ret]
  imodintro
  iapply HQ
  iexact HO

theorem barw_spec (K : GSem nD τ sig → ℕ) (c : Dev nD) (W : Waits sig Unit) (Q : PUnit → sProp 𝕄) :
    iprop((levAts L lv ∗ Inv E S K ∗ cred (tallyAt (barCell c) () 1) ∗ owes (c : Thread nD τ) (owedS c) W ∗ atPos ER (barCell c) 0 ∅ 0)
      ∗ (((∃ W, owes (c : Thread nD τ) (owedS c) W) ∗ atPos ER (barCell c) 1 ∅ 0 ∗ barPay c) -∗ Q ⟨⟩))
      ⊢ WP c (semWaitWord barrier0 1#32) Q := by
  show _ ⊢ wp frame _ Set.univ (.op (TpuEff.semWait barrier0 ((1 : ℕ) : ℤ)) .ret) Q
  iintro ⟨⟨#Hlev, #HI, Hc, HO, Ha⟩, HQ⟩
  ihave #HIb := (inv_bar E S K c) $$ HI
  iapply (Rounds.wp_wait_rest_token 𝒱₀ ER (Rd E S) (c : Thread nD τ) none (κ := K (barCell c))
      (wpE_semWait_eq 𝒱₀ (c : Thread nD τ) none Set.univ) (Set.mem_univ _) () (O := owedS c) (W := W) (R := 0) (m := 0) (T := ∅)
      ((Nat.zero_add _).trans ((expect_of E S (talk_bar c)).trans (amount_bar E S c ())).symm)) $$ [Hc HO Ha]
  · isplitr; · iexact HIb
    isplitl [Hc]; · iexact Hc
    isplitl [HO]; · iexact HO
    isplitr
    · iapply (mayWait_owedS c); iexact Hlev
    iexact Ha
  iintro ⟨HO, Ha, -, Hpay⟩
  ihave Hl := (Entails.of_eq ((rest_of E S (talk_bar c)).trans (payload_bar E S c ()))) $$ Hpay
  rw [wp_ret]
  imodintro
  iapply HQ
  isplitl [HO]; · iexists _; iexact HO
  isplitl [Ha] <;> iassumption

/-- The row sums to the neighbour. -/
def ssP (d : Dev nD) : P F PUnit :=
  Prog.lift (.enqueueDma (Memref.whole cc1_stg0_0) (.remote (Dev.tc d) (Memref.whole cc1_scratch3) (.dma cc1_scratch10.sem)) (.dma cc1_scratch11.sem) (Memref.isWhole_whole _).wordExact (Memref.isWhole_whole _).wordExact ⟨⟨rfl, Or.inl rfl⟩, trivial⟩)

theorem landed_s (c : Dev nD) (f g : SBuf F) : snb.view.write (Elt F) f (stg.view.read (Elt F) g) Finset.univ = g := by
  rw [View.write_whole_univ]; rfl

theorem ss_spec (K : GSem nD τ sig → ℕ) (c : Dev nD) (Q : PUnit → sProp 𝕄) :
    iprop((Inv E S K ∗ reached ER (dCell c ssS) 0 ∗ reached ER (dCell (nbr c) srS) 0
        ∗ gP c (S c) ∗ (∃ f, nP (nbr c) f) ∗ dutyTok ER (dCell c ssS) 0 () ∗ dutyTok ER (dCell (nbr c) srS) 0 () ∗ ∃ W, owes (c : Thread nD τ) (owedS c) W)
      ∗ ((cred (tallyAt (dCell c ssS) () Ns) ∗ ∃ W, owes (c : Thread nD τ) (owed c 0) W) -∗ Q ⟨⟩))
      ⊢ WP c (ssP (nbr c)) Q := by
  show _ ⊢ wp frame _ Set.univ (.op _ .ret) Q
  iintro ⟨⟨#HI, #Hrs, #Hrr, Hb, ⟨%f, Hr⟩, HtS, HtR, ⟨%W, HO⟩⟩, HQ⟩
  ihave #HIs := (inv_tk E S K c 16) $$ HI
  ihave #HIr := (inv_tk E S K (nbr c) 17) $$ HI
  iapply (Rounds.wp_send_pointsTo 𝒱₀ ER (Rd E S) (c : Thread nD τ) none (c' := (nbr c : Thread nD τ)) (src := stg) (dst := snb)
      (sS := .dma ssS) (sem := .dma srS) (q := fullShare) (fs := S c) (κ₁ := K (dCell c (tk 16))) (κ₂ := K (dCell (nbr c) (tk 17)))
      (r₁ := 0) (r₂ := 0) (d₁ := ()) (d₂ := ()) (fd := f)
      (mem_duties E S (talk_ss c)) (mem_duties E S (talk_sr (nbr c)))
      () () Ns rfl (amount_ss E S c ()) (amount_sr E S (nbr c) ()) (owed c 0) rfl (W := W)
      (by rw [payload_ss]) (by rw [payload_sr, nbr_nbr]; exact Entails.of_eq (pointsTo_congr fun j _ => congrFun (landed_s c f (S c)) j)))
    $$ [Hb Hr HO HtS HtR]
  · isplitr; · iexact HIs
    isplitr; · iexact HIr
    isplitl [Hb]; · iexact Hb
    isplitl [Hr]; · iexact Hr
    isplitl [HO]; · iexact HO
    isplitl [HtS]; · iexact HtS
    isplitr; · iexact Hrs
    isplitl [HtR]; · iexact HtR
    iexact Hrr
  iintro ⟨Hc, HO⟩
  rw [wp_ret]
  imodintro
  iapply HQ
  isplitl [Hc]; · iexact Hc
  iexists _; iexact HO

theorem waits_ss (c : Dev nD) (Kt : PUnit → sProp 𝕄) :
    wpE (defs₀ (F := F)) 𝒱₀ (c : Thread nD τ) none Set.univ (.waitDma2 ssS snb stg (Memref.isWhole_whole _).wordExact (Memref.isWhole_whole _).wordExact) Kt
      = waitSpec (c : Thread nD τ) Set.univ (.dma ssS) Ns Kt :=
  wpE_waitDma2_eq (src := snb) (dst := stg) 𝒱₀ (c : Thread nD τ) none Set.univ Kt
theorem waits_sr (c : Dev nD) (Kt : PUnit → sProp 𝕄) :
    wpE (defs₀ (F := F)) 𝒱₀ (c : Thread nD τ) none Set.univ (.waitDma2 srS stg snb (Memref.isWhole_whole _).wordExact (Memref.isWhole_whole _).wordExact) Kt
      = waitSpec (c : Thread nD τ) Set.univ (.dma srS) Ns Kt :=
  wpE_waitDma2_eq (src := stg) (dst := snb) 𝒱₀ (c : Thread nD τ) none Set.univ Kt

theorem ssw_spec (K : GSem nD τ sig → ℕ) (c : Dev nD) (Q : PUnit → sProp 𝕄) :
    iprop((levAts L lv ∗ Inv E S K ∗ cred (tallyAt (dCell c ssS) () Ns) ∗ atPos ER (dCell c ssS) 0 ∅ 0 ∗ ∃ W, owes (c : Thread nD τ) (owed c 0) W)
      ∗ ((atPos ER (dCell c ssS) 1 ∅ 0 ∗ gP c (S c) ∗ ∃ W, owes (c : Thread nD τ) (owed c 0) W) -∗ Q ⟨⟩))
      ⊢ WP c (Prog.lift (.waitDma2 ssS snb stg (Memref.isWhole_whole _).wordExact (Memref.isWhole_whole _).wordExact)) Q := by
  show _ ⊢ wp frame _ Set.univ (.op _ .ret) Q
  iintro ⟨⟨#Hlev, #HI, Hc, Ha, ⟨%W, HO⟩⟩, HQ⟩
  ihave #HIs := (inv_tk E S K c 16) $$ HI
  iapply (Rounds.wp_wait_rest_token 𝒱₀ ER (Rd E S) (c : Thread nD τ) none (κ := K (dCell c (tk 16)))
      (waits_ss c) (Set.mem_univ _) () (O := owed c 0) (W := W) (R := 0) (m := 0) (T := ∅)
      ((Nat.zero_add _).trans ((expect_of E S (talk_ss c)).trans (amount_ss E S c ())).symm)) $$ [Hc HO Ha]
  · isplitr; · iexact HIs
    isplitl [Hc]; · iexact Hc
    isplitl [HO]; · iexact HO
    isplitr
    · iapply (mayWait_owed c (.dma ssS) 0 (by rw [lv_low c ssS (by rw [ssS_val]; omega)]; omega)); iexact Hlev
    iexact Ha
  iintro ⟨HO, Ha, -, Hpay⟩
  ihave Hl := (Entails.of_eq ((rest_of E S (talk_ss c)).trans (payload_ss E S c ()))) $$ Hpay
  rw [wp_ret]
  imodintro
  iapply HQ
  isplitl [Ha]; · iexact Ha
  isplitl [Hl]; · iexact Hl
  iexists _; iexact HO

theorem srw_spec (K : GSem nD τ sig → ℕ) (c : Dev nD) (Q : PUnit → sProp 𝕄) :
    iprop((levAts L lv ∗ Inv E S K ∗ cred (tallyAt (dCell c srS) () Ns) ∗ atPos ER (dCell c srS) 0 ∅ 0 ∗ ∃ W, owes (c : Thread nD τ) (owed c 0) W)
      ∗ ((atPos ER (dCell c srS) 1 ∅ 0 ∗ nP c (S (nbr c)) ∗ ∃ W, owes (c : Thread nD τ) (owed c 0) W) -∗ Q ⟨⟩))
      ⊢ WP c (Prog.lift (.waitDma2 srS stg snb (Memref.isWhole_whole _).wordExact (Memref.isWhole_whole _).wordExact)) Q := by
  show _ ⊢ wp frame _ Set.univ (.op _ .ret) Q
  iintro ⟨⟨#Hlev, #HI, Hc, Ha, ⟨%W, HO⟩⟩, HQ⟩
  ihave #HIs := (inv_tk E S K c 17) $$ HI
  iapply (Rounds.wp_wait_rest_token 𝒱₀ ER (Rd E S) (c : Thread nD τ) none (κ := K (dCell c (tk 17)))
      (waits_sr c) (Set.mem_univ _) () (O := owed c 0) (W := W) (R := 0) (m := 0) (T := ∅)
      ((Nat.zero_add _).trans ((expect_of E S (talk_sr c)).trans (amount_sr E S c ())).symm)) $$ [Hc HO Ha]
  · isplitr; · iexact HIs
    isplitl [Hc]; · iexact Hc
    isplitl [HO]; · iexact HO
    isplitr
    · iapply (mayWait_owed c (.dma srS) 0 (by rw [lv_sr])); iexact Hlev
    iexact Ha
  iintro ⟨HO, Ha, -, Hpay⟩
  ihave Hl := (Entails.of_eq ((rest_of E S (talk_sr c)).trans (payload_sr E S c ()))) $$ Hpay
  rw [wp_ret]
  imodintro
  iapply HQ
  isplitl [Ha]; · iexact Ha
  isplitl [Hl]; · iexact Hl
  iexists _; iexact HO

/-- The two parts added, the reciprocal of each row's sum. -/
def rcpP : P F PUnit := do
  let v ← Prog.lift (.load (Memref.whole cc1_stg0_0) (Rect.unit (s := S2048x1) ![0, 0] S2048x1.size inb_S2048x1_S2048x1_0_0).toLoadRect (View.loadsAt_vmem h_S2048x1))
  let w ← Prog.lift (.load (Memref.whole cc1_scratch3) (Rect.unit (s := S2048x1) ![0, 0] S2048x1.size inb_S2048x1_S2048x1_0_0).toLoadRect (View.loadsAt_vmem h_S2048x1))
  let _ ← Prog.lift (.load rcp (Rect.unit (s := S2048x1) ![0, 0] S2048x1.size inb_S2048x1_S2048x1_0_0).toLoadRect (View.loadsAt_vmem h_S2048x1))
  Prog.lift (.store rcp (Rect.unit (s := S2048x1) ![0, 0] S2048x1.size inb_S2048x1_S2048x1_0_0) (k1_pay1 v w) Finset.univ (View.stores_vmem_bits_univ h_S2048x1 rfl) (.inl rfl))

theorem read_stg (a : SBuf F) : stg.view.readAt (Elt F) (Rect.unit (s := S2048x1) ![0, 0] S2048x1.size inb_S2048x1_S2048x1_0_0).toLoadRect a = a :=
  readAt_full stg.view a _
theorem read_snb (a : SBuf F) : snb.view.readAt (Elt F) (Rect.unit (s := S2048x1) ![0, 0] S2048x1.size inb_S2048x1_S2048x1_0_0).toLoadRect a = a :=
  readAt_full snb.view a _
theorem writes_rcp (g w : SBuf F) : rcp.view.writes (Elt F) g [⟨Rect.unit (s := S2048x1) ![0, 0] S2048x1.size inb_S2048x1_S2048x1_0_0, w⟩] = w :=
  (View.read_whole cc1_scratch4 _).symm.trans (read_writes_full (View.whole cc1_scratch4) g _ w)

theorem rcp_spec (c : Dev nD) (a b : SBuf F) (Q : PUnit → sProp 𝕄) :
    iprop((gP c a ∗ nP c b ∗ ∃ g, rcp.view.loc (c : Thread nD τ) ↦[rcp.view.set]{fullShare} g)
      ∗ ((gP c a ∗ nP c b ∗ rcp.view.loc (c : Thread nD τ) ↦[rcp.view.set]{fullShare} k1_pay1 a b) -∗ Q ⟨⟩))
      ⊢ WP c (rcpP (F := F)) Q := by
  unfold WP rcpP
  iintro ⟨⟨Ha, Hb, ⟨%g, Hr⟩⟩, HQ⟩
  sl_exec
  rw [wp_ret]
  imodintro
  iapply HQ
  isplitl [Ha]; · iexact Ha
  isplitl [Hb]; · iexact Hb
  iapply (Entails.of_eq (pointsTo_congr fun j _ => ?_)) $$ Hr
  rw [read_stg, read_snb]
  exact congrFun (writes_rcp g _) j

theorem headP_eq (c : Dev nD) : (headP c : P F PUnit) = (do
    semSignalWord (⟨k1_dev1 c, k1_dev1_lt c⟩ : Dev nD) barrier0 1#32
    semWaitWord barrier0 1#32
    ssP (nbr c)
    Prog.lift (.waitDma2 ssS snb stg (Memref.isWhole_whole _).wordExact (Memref.isWhole_whole _).wordExact)
    Prog.lift (.waitDma2 srS stg snb (Memref.isWhole_whole _).wordExact (Memref.isWhole_whole _).wordExact)
    rcpP) := by
  rw [← nbr_two]
  rfl

/-- What the head is entered with. -/
def HeadPre (K : GSem nD τ sig → ℕ) (c : Dev nD) : sProp 𝕄 :=
  iprop(levAts L lv ∗ Inv E S K ∗ (bigSep Finset.univ fun i : Fin 8 => reached ER (dCell c (sS i)) 0)
    ∗ (bigSep Finset.univ fun i : Fin 8 => reached ER (dCell c (sR i)) 0)
    ∗ reached ER (dCell c ssS) 0 ∗ reached ER (dCell c srS) 0 ∗ reached ER (barCell (nbr c)) 0
    ∗ dutyTok ER (barCell (nbr c)) 0 () ∗ dutyTok ER (dCell c ssS) 0 () ∗ dutyTok ER (dCell (nbr c) srS) 0 ()
    ∗ atPos ER (barCell c) 0 ∅ 0 ∗ atPos ER (dCell c ssS) 0 ∅ 0 ∗ atPos ER (dCell c srS) 0 ∅ 0
    ∗ cred (tallyAt (barCell c) () 1) ∗ cred (tallyAt (dCell c srS) () Ns)
    ∗ (∃ f, nP c f) ∗ (bigSep Finset.univ fun i : Fin 8 => iprop(∃ f, rP c i f)) ∗ gP c (S c)
    ∗ (∃ g, rcp.view.loc (c : Thread nD τ) ↦[rcp.view.set]{fullShare} g) ∗ ∃ W, owes (c : Thread nD τ) (O₀ c) W)

/-- What it leaves: with the neighbour's receive tiles, the reciprocals. -/
def HeadPost (K : GSem nD τ sig → ℕ) (c : Dev nD) : sProp 𝕄 :=
  iprop(Facts E S K c ∗ (bigSep Finset.univ fun i : Fin 8 => iprop(∃ f, rP (nbr c) i f))
    ∗ atPos ER (barCell c) 1 ∅ 0 ∗ atPos ER (dCell c ssS) 1 ∅ 0 ∗ atPos ER (dCell c srS) 1 ∅ 0
    ∗ nP c (S (nbr c)) ∗ gP c (S c) ∗ (rcp.view.loc (c : Thread nD τ) ↦[rcp.view.set]{fullShare} recip S c)
    ∗ ∃ W, owes (c : Thread nD τ) (owed c 0) W)

theorem headP_spec (K : GSem nD τ sig → ℕ) (c : Dev nD) (Q : PUnit → sProp 𝕄) :
    iprop(HeadPre E S K c ∗ (HeadPost E S K c -∗ Q ⟨⟩)) ⊢ WP c (headP c) Q := by
  rw [headP_eq]
  unfold HeadPre HeadPost
  iintro ⟨⟨#Hlev, #HI, #HrS, #HrR, #Hrss, #Hrsr, #Hrb, HtB, HtS, HtR, HaB, HaS, HaR, HcB, HcR, Hn, Hr, Hg, Hrc, ⟨%W, HO⟩⟩, HQ⟩
  iapply (WP_seq c _ _)
  iapply (sig_spec E S K c W)
  isplitl [HtB Hn Hr HO]
  · isplitr; · iexact HI
    isplitl [HO]; · iexact HO
    isplitl [HtB]; · iexact HtB
    isplitl [Hn Hr]
    · isplitl [Hn]; · iexact Hn
      isplitl [Hr]; · iexact Hr
      isplitr <;> iassumption
    iexact Hrb
  iintro HO
  iapply (WP_seq c _ _)
  iapply (barw_spec E S K c W)
  isplitl [HcB HO HaB]
  · isplitr; · iexact Hlev
    isplitr; · iexact HI
    isplitl [HcB]; · iexact HcB
    isplitl [HO] <;> iassumption
  unfold barPay
  iintro ⟨HO, HaB, ⟨Hn, Hr, #HrrN, #HrRN⟩⟩
  iapply (WP_seq c _ _)
  iapply (ss_spec E S K c)
  isplitl [Hg Hn HtS HtR HO]
  · isplitr; · iexact HI
    isplitr; · iexact Hrss
    isplitr; · iexact HrrN
    isplitl [Hg]; · iexact Hg
    isplitl [Hn]; · iexact Hn
    isplitl [HtS]; · iexact HtS
    isplitl [HtR] <;> iassumption
  iintro ⟨HcS, HO⟩
  iapply (WP_seq c _ _)
  iapply (ssw_spec E S K c)
  isplitl [HcS HaS HO]
  · isplitr; · iexact Hlev
    isplitr; · iexact HI
    isplitl [HcS]; · iexact HcS
    isplitl [HaS] <;> iassumption
  iintro ⟨HaS, Hg, HO⟩
  iapply (WP_seq c _ _)
  iapply (srw_spec E S K c)
  isplitl [HcR HaR HO]
  · isplitr; · iexact Hlev
    isplitr; · iexact HI
    isplitl [HcR]; · iexact HcR
    isplitl [HaR] <;> iassumption
  iintro ⟨HaR, Hn, HO⟩
  iapply (rcp_spec c (S c) (S (nbr c)))
  isplitl [Hg Hn Hrc]
  · isplitl [Hg]; · iexact Hg
    isplitl [Hn] <;> iassumption
  iintro ⟨Hg, Hn, Hrc⟩
  iapply HQ
  isplitr
  · unfold Facts
    isplitr; · iexact Hlev
    isplitr; · iexact HI
    isplitr <;> iassumption
  isplitl [Hr]; · iexact Hr
  isplitl [HaB]; · iexact HaB
  isplitl [HaS]; · iexact HaS
  isplitl [HaR]; · iexact HaR
  isplitl [Hn]; · iexact Hn
  isplitl [Hg]; · iexact Hg
  isplitl [Hrc]; · iexact Hrc
  iexact HO

end Cert.KernelIdeal.Ex
-- ==== Proof.Body.lean ====
/- The whole body of the exchange, on any device. -/
module

public import proofs.«01_k».proof.Proof.Head
public import Idealize.ShloMosaic.Lib.Exec

@[expose] public section

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (E : Dev nD → EBuf F) (S : Dev nD → SBuf F)

/-! ## Families -/

theorem fam_two {I : Type} [DecidableEq I] (s : Finset I) (Φ Ψ : I → sProp 𝕄) :
    bigSep s (fun i => iprop(Φ i ∗ Ψ i)) = iprop(bigSep s Φ ∗ bigSep s Ψ) := bigSep_sep' s Φ Ψ

def kSe : Fin 8 ↪ Fin 18 := ⟨kS, by decide⟩
def kRe : Fin 8 ↪ Fin 18 := ⟨kR, by decide⟩

/-- The eighteen cells: the sending eight, the receiving eight, the row sums' pair. -/
theorem fam18 (Φ : Fin 18 → sProp 𝕄) : bigSep Finset.univ Φ
    = iprop((bigSep Finset.univ fun i : Fin 8 => Φ (kS i)) ∗ (bigSep Finset.univ fun i : Fin 8 => Φ (kR i)) ∗ Φ 16 ∗ Φ 17) := by
  rw [show (Finset.univ : Finset (Fin 18)) = Finset.univ.map kSe ∪ (Finset.univ.map kRe ∪ ({16} ∪ {17})) from by decide,
    BI.bigSep_union (by decide), BI.bigSep_union (by decide), BI.bigSep_union (by decide), BI.bigSep_map, BI.bigSep_map,
    bigSep_singleton, bigSep_singleton]
  rfl

/-! ## The body -/

/-- The duties device `c` pays. -/
def Toks (c : Dev nD) : sProp 𝕄 :=
  iprop(dutyTok ER (barCell (nbr c)) 0 () ∗ (bigSep Finset.univ fun i : Fin 8 => dutyTok ER (dCell c (sS i)) 0 ())
    ∗ (bigSep Finset.univ fun i : Fin 8 => dutyTok ER (dCell (nbr c) (sR i)) 0 ()) ∗ dutyTok ER (dCell c ssS) 0 () ∗ dutyTok ER (dCell (nbr c) srS) 0 ())
/-- The credit it waits with. -/
def Creds (c : Dev nD) : sProp 𝕄 :=
  iprop(cred (tallyAt (barCell c) () 1) ∗ (bigSep Finset.univ fun i : Fin 8 => cred (tallyAt (dCell c (sR i)) () N)) ∗ cred (tallyAt (dCell c srS) () Ns))
/-- The counters of the local copies. -/
def Plain (c : Dev nD) : sProp 𝕄 :=
  iprop((bigSep Finset.univ fun i : Fin 8 => semVal (dCell c (sT i)) 0) ∗ semVal (dCell c ldS) 0 ∗ semVal (dCell c rlS) 0)
/-- The on-chip buffers, at any contents. -/
def Chip (c : Dev nD) : sProp 𝕄 :=
  iprop((∃ g, bP c fullShare g) ∗ (∃ g, rbuf.view.loc (c : Thread nD τ) ↦[rbuf.view.set]{fullShare} g)
    ∗ (∃ g, stb.view.loc (c : Thread nD τ) ↦[stb.view.set]{fullShare} g) ∗ (∃ g, nP c g)
    ∗ (∃ g, rcp.view.loc (c : Thread nD τ) ↦[rcp.view.set]{fullShare} g))

def BodyPre (K : GSem nD τ sig → ℕ) (c : Dev nD) : sProp 𝕄 :=
  iprop(levAts L lv ∗ Inv E S K ∗ reached ER (barCell (nbr c)) 0 ∗ atPos ER (barCell c) 0 ∅ 0
    ∗ (bigSep Finset.univ fun k : Fin 18 => iprop(atPos ER (dCell c (tk k)) 0 ∅ 0 ∗ reached ER (dCell c (tk k)) 0))
    ∗ Toks c ∗ Creds c ∗ Plain c ∗ Chip c ∗ gP c (S c) ∗ (bigSep Finset.univ fun i : Fin 8 => eP c i (E c))
    ∗ (bigSep Finset.univ fun i : Fin 8 => iprop(∃ f, oP c (half c) i f)) ∗ (bigSep Finset.univ fun i : Fin 8 => iprop(∃ f, oP c (half' c) i f))
    ∗ (bigSep Finset.univ fun i : Fin 8 => iprop(∃ f, rP c i f)) ∗ ∃ W, owes (c : Thread nD τ) (O₀ c) W)

def BodyPost (c : Dev nD) : sProp 𝕄 :=
  iprop(semVal (barCell c) 0 ∗ (bigSep Finset.univ fun k : Fin 18 => semVal (dCell c (tk k)) 0)
    ∗ Plain c ∗ Chip c ∗ gP c (S c) ∗ (bigSep Finset.univ fun i : Fin 8 => eP c i (E c))
    ∗ (bigSep Finset.univ fun i : Fin 8 => oP c (half c) i (outW E S c)) ∗ (bigSep Finset.univ fun i : Fin 8 => oP c (half' c) i (outW E S c))
    ∗ (bigSep Finset.univ fun i : Fin 8 => rP c i (E (nbr c))) ∗ ∃ W, owes (c : Thread nD τ) (0 : CellTallies nD τ sig Unit) W)

/-- All the cells closed. -/
theorem close_all (K : GSem nD τ sig → ℕ) (c : Dev nD) :
    iprop(Inv E S K ∗ atPos ER (barCell c) 1 ∅ 0 ∗ bigSep Finset.univ fun k : Fin 18 => atPos ER (dCell c (tk k)) 1 ∅ 0)
      ⊢ (|={Set.univ}=> iprop(semVal (barCell c) 0 ∗ bigSep Finset.univ fun k : Fin 18 => semVal (dCell c (tk k)) 0) : sProp 𝕄) := by
  iintro ⟨#HI, Hb, Hk⟩
  ihave #HIb := (inv_bar E S K c) $$ HI
  imod (Rounds.cell_close ER (Rd E S) (κ := K (barCell c)) (g := barCell c) (R := 0 + 1) (Set.mem_univ _) id (duties_later E S _)) $$ [Hb] with Hb0
  · isplitr; · iexact HIb
    iexact Hb
  imod (Rounds.cells_close ER (Rd E S) Finset.univ (fun k : Fin 18 => dCell c (tk k)) (fun k => K (dCell c (tk k))) (Es := Set.univ)
      (fun _ _ => Set.mem_univ _) (fun _ _ => id) (fun _ => 0 + 1) (fun k _ => duties_later E S _)) $$ [Hk] with Hk0
  · iapply (bigSep_with_persistent (R := Inv E S K) (Φ := fun k : Fin 18 => atPos ER (dCell c (tk k)) 1 ∅ 0) fun k _ => by
      iintro ⟨#HI, H⟩
      isplitr; · iapply (inv_tk E S K c k); iexact HI
      iexact H)
    isplitr; · iexact HI
    iexact Hk
  imodintro
  isplitl [Hb0] <;> iassumption

theorem cond_of (c : Dev nD) :
    (half c = 0 ∧ half' c = 1 ∧ k1_cond1 c = 1#1 ∧ ¬k1_cond2 c = 1#1) ∨ (half c = 1 ∧ half' c = 0 ∧ ¬k1_cond1 c = 1#1 ∧ k1_cond2 c = 1#1) := by
  revert c; decide

/-- After the head: the branch of this device's half. -/
def tailP (d : Dev nD) : P F PUnit := do
  if _h : k1_cond1 d = 1#1 then branchP ⟨k1_dev1 d, k1_dev1_lt d⟩ 0 1 else pure ⟨⟩
  if _h : k1_cond2 d = 1#1 then branchP ⟨k1_dev1 d, k1_dev1_lt d⟩ 1 0 else pure ⟨⟩
  pure ⟨⟩

set_option maxRecDepth 65536 in
theorem tail_spec (K : GSem nD τ sig → ℕ) (c : Dev nD) (Q : PUnit → sProp 𝕄) :
    iprop((Facts E S K c ∗ St E S c 0 0) ∗ (St E S c 8 8 -∗ Q ⟨⟩))
      ⊢ WP c (tailP c) Q := by
  have hnil : ∀ (A : sProp 𝕄) (Q : PUnit → sProp 𝕄), iprop((Facts E S K c ∗ A) ∗ (A -∗ Q ⟨⟩)) ⊢ WP c (pure ⟨⟩) Q := by
    intro A Q
    show _ ⊢ wp frame _ Set.univ (.ret ⟨⟩) Q
    rw [wp_ret]
    iintro ⟨⟨-, H⟩, HQ⟩
    imodintro
    iapply HQ
    iexact H
  have hb := branch_spec E S K c
  rcases cond_of c with ⟨h, h', h1, h2⟩ | ⟨h, h', h1, h2⟩
  · rw [h, h'] at hb
    rw [show (tailP c : P F PUnit) = (do branchP (nbr c) 0 1; pure ⟨⟩) from by
      unfold tailP; dsimp only; rw [dif_pos h1]; exact congrArg _ (funext fun _ => dif_neg h2)]
    exact seq_spec E S K c hb (hnil _) Q
  · rw [h, h'] at hb
    rw [show (tailP c : P F PUnit) = (do branchP (nbr c) 1 0; pure ⟨⟩) from by
      unfold tailP; dsimp only; rw [dif_neg h1, dif_pos h2]; rfl]
    exact seq_spec E S K c hb (hnil _) Q

theorem WP_fupd (c : Dev nD) (p : P F PUnit) {Q : PUnit → sProp 𝕄} : WP c p (fun a => iprop(|={Set.univ}=> Q a)) ⊢ WP c p Q :=
  Idealize.SL.Sem.wp_fupd _ _ _ p Q

theorem fam_lt (A B : Fin 8 → sProp 𝕄) :
    (bigSep Finset.univ fun j : Fin 8 => if j.val < 8 then B j else A j) = bigSep Finset.univ B :=
  bigSep_congr fun j _ => if_pos j.isLt
theorem fam_zero (A B : Fin 8 → sProp 𝕄) :
    (bigSep Finset.univ fun j : Fin 8 => if j.val < 0 then B j else A j) = bigSep Finset.univ A :=
  bigSep_congr fun j _ => if_neg (Nat.not_lt_zero _)

theorem body_spec (K : GSem nD τ sig → ℕ) (c : Dev nD) (Q : PUnit → sProp 𝕄) :
    iprop(BodyPre E S K c ∗ (BodyPost E S c -∗ Q ⟨⟩)) ⊢ WP c (bodyP (F := F)) Q := by
  rw [show WP c (bodyP (F := F)) Q = WP c (do headP c; tailP c) Q from wp_deviceId ..]
  unfold BodyPre Toks Creds Plain Chip
  iintro ⟨⟨#Hlev, #HI, #Hrb, HaB, Hat, ⟨HtB, HtS, HtR, Htss, Htsr⟩, ⟨HcB, HcR, Hcsr⟩, ⟨HsT, Hld, Hrl⟩, ⟨Hb, Hrbuf, Hst, Hn, Hrc⟩, Hg, He, Ho, Ho', Hr, HO⟩, HQ⟩
  ihave Hat2 := (Entails.of_eq (fam_two _ _ _)) $$ Hat
  icases Hat2 with ⟨Hat, #Hre⟩
  ihave Hat2 := (Entails.of_eq (fam18 (fun k : Fin 18 => atPos ER (dCell c (tk k)) 0 ∅ 0))) $$ Hat
  icases Hat2 with ⟨HaS, HaR, Hass, Hasr⟩
  ihave Hre2 := (Entails.of_eq (fam18 (fun k : Fin 18 => reached ER (dCell c (tk k)) 0))) $$ Hre
  icases Hre2 with ⟨#HrS, #HrR, #Hrss, #Hrsr⟩
  iapply (WP_seq c _ _)
  iapply (headP_spec E S K c)
  isplitl [HtB Htss Htsr HaB Hass Hasr HcB Hcsr Hn Hr Hg Hrc HO]
  · unfold HeadPre
    simp only [← tk_kS, ← tk_kR]
    isplitr; · iexact Hlev
    isplitr; · iexact HI
    isplitr; · iexact HrS
    isplitr; · iexact HrR
    isplitr; · iexact Hrss
    isplitr; · iexact Hrsr
    isplitr; · iexact Hrb
    isplitl [HtB]; · iexact HtB
    isplitl [Htss]; · iexact Htss
    isplitl [Htsr]; · iexact Htsr
    isplitl [HaB]; · iexact HaB
    isplitl [Hass]; · iexact Hass
    isplitl [Hasr]; · iexact Hasr
    isplitl [HcB]; · iexact HcB
    isplitl [Hcsr]; · iexact Hcsr
    isplitl [Hn]; · iexact Hn
    isplitl [Hr]; · iexact Hr
    isplitl [Hg]; · iexact Hg
    isplitl [Hrc] <;> iassumption
  unfold HeadPost
  iintro ⟨#HF, Hr, HaB, Hass, Hasr, Hn, Hg, Hrc, HO⟩
  iapply (WP_fupd c _)
  iapply (tail_spec E S K c)
  isplitl [Hr HtS HtR HaS HaR HcR He Ho Ho' HsT Hld Hrl Hb Hrbuf Hst Hrc HO]
  · isplitr; · iexact HF
    unfold St Common
    rw [fam_zero, fam_zero]
    unfold OwnTodo RcvTodo
    simp only [fam_two, ← tk_kS, ← tk_kR]
    isplitl [HtS HtR Hr HaS Ho He]
    · isplitl [HtS]; · iexact HtS
      isplitl [HtR]; · iexact HtR
      isplitl [Hr]; · iexact Hr
      isplitl [HaS]; · iexact HaS
      isplitl [Ho] <;> iassumption
    isplitl [HcR HaR Ho']
    · isplitl [HcR]; · iexact HcR
      isplitl [HaR] <;> iassumption
    isplitl [HsT Hld Hrl Hrbuf Hst Hrc]
    · isplitl [Hld]; · iexact Hld
      isplitl [Hrl]; · iexact Hrl
      isplitl [HsT]; · iexact HsT
      isplitl [Hrbuf]; · iexact Hrbuf
      isplitl [Hst] <;> iassumption
    isplitl [Hb]; · iexact Hb
    iexact HO
  unfold St Common
  rw [fam_lt, fam_lt]
  unfold OwnDone RcvDone
  simp only [fam_two]
  iintro ⟨⟨HaS, Ho, He⟩, ⟨HaR, Hr, Ho'⟩, ⟨Hld, Hrl, HsT, Hrbuf, Hst, Hrc⟩, Hb, HO⟩
  rw [owed_done]
  imod (close_all E S K c) $$ [HaB HaS HaR Hass Hasr] with Hz
  · isplitr; · iexact HI
    isplitl [HaB]; · iexact HaB
    iapply (Entails.of_eq (fam18 (fun k : Fin 18 => atPos ER (dCell c (tk k)) 1 ∅ 0)).symm)
    simp only [tk_kS, tk_kR]
    isplitl [HaS]; · iexact HaS
    isplitl [HaR]; · iexact HaR
    isplitl [Hass]; · iexact Hass
    iexact Hasr
  imodintro
  icases Hz with ⟨HzB, Hz⟩
  iapply HQ
  unfold BodyPost Plain Chip
  isplitl [HzB]; · iexact HzB
  isplitl [Hz]; · iexact Hz
  isplitl [HsT Hld Hrl]
  · isplitl [HsT]; · iexact HsT
    isplitl [Hld] <;> iassumption
  isplitl [Hb Hrbuf Hst Hn Hrc]
  · isplitl [Hb]; · iexact Hb
    isplitl [Hrbuf]; · iexact Hrbuf
    isplitl [Hst]; · iexact Hst
    isplitl [Hn]; · iexists _; iexact Hn
    iexists _; iexact Hrc
  isplitl [Hg]; · iexact Hg
  isplitl [He]; · iexact He
  isplitl [Ho]; · iexact Ho
  isplitl [Ho']; · iexact Ho'
  isplitl [Hr] <;> iassumption

end Cert.KernelIdeal.Ex
-- ==== Proof.Tiles.lean ====
/- The buffers the exchange addresses, whole and tile by tile; its semaphores and its scoped buffers. -/
module

public import proofs.«01_k».proof.Proof.Body
public import proofs.«01_k».proof.Proof.Gen.KernelIdeal.Regions
public import Idealize.ShloMosaic.Lib.Ring

@[expose] public section

set_option maxRecDepth 16384

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (E : Dev nD → EBuf F) (S : Dev nD → SBuf F)

/-! ## Tiles -/

theorem set_eT (i : Fin 8) : (eT i).view.set = (Rect.unit (s := S2048x8192) ![256 * i.val, 0] S256x8192.size (inbRow i)).set :=
  View.set_slice_whole main_v3_0 _
theorem set_rT (i : Fin 8) : (rT i).view.set = (eT i).view.set :=
  (View.set_slice_whole main_v5_1 _).trans (set_eT i).symm
theorem set_oT (h : Fin 2) (i : Fin 8) :
    (oT h i).view.set = (Rect.unit (s := S2048x16384) ![256 * i.val, 8192 * h.val] S256x8192.size (inbOut h i)).set :=
  View.set_slice_whole main_v5_0 _

theorem mem_eT (i : Fin 8) (y : S2048x8192.Idx) : y ∈ (eT i).view.set ↔ (y 0).val / 256 = i.val := by
  have h1 : (y 1).val < 8192 := (y 1).isLt
  refine (Eq.to_iff (congrArg (fun s : Finset S2048x8192.Idx => y ∈ s) (set_eT i))).trans (Rect.mem_set_unit.trans ?_)
  constructor
  · intro h
    have h0 : 256 * i.val ≤ (y 0).val ∧ (y 0).val < 256 * i.val + 256 := h 0
    omega
  · intro h a
    fin_cases a
    · show 256 * i.val ≤ (y 0).val ∧ (y 0).val < 256 * i.val + 256
      omega
    · show 0 ≤ (y 1).val ∧ (y 1).val < 0 + 8192
      omega

theorem mem_oT (h : Fin 2) (i : Fin 8) (y : S2048x16384.Idx) :
    y ∈ (oT h i).view.set ↔ (y 0).val / 256 = i.val ∧ (y 1).val / 8192 = h.val := by
  refine (Eq.to_iff (congrArg (fun s : Finset S2048x16384.Idx => y ∈ s) (set_oT h i))).trans (Rect.mem_set_unit.trans ?_)
  constructor
  · intro h'
    have h0 : 256 * i.val ≤ (y 0).val ∧ (y 0).val < 256 * i.val + 256 := h' 0
    have h1 : 8192 * h.val ≤ (y 1).val ∧ (y 1).val < 8192 * h.val + 8192 := h' 1
    omega
  · intro h' a
    fin_cases a
    · show 256 * i.val ≤ (y 0).val ∧ (y 0).val < 256 * i.val + 256
      omega
    · show 8192 * h.val ≤ (y 1).val ∧ (y 1).val < 8192 * h.val + 8192
      omega

/-- A buffer of the device, held whole. -/
abbrev pt (c : Dev nD) (b : Ref sig .tc) (f : Buf (Elt F) ((c : Thread nD τ).loc b)) : sProp 𝕄 := ((c : Thread nD τ).loc b) ↦{fullShare} f

/-- A buffer held whole is held block by block, the blocks being the fibres of a map. -/
theorem pt_blocks {ℓ : Loc nD τ sig} {B : Type} [Fintype B] [DecidableEq B] (I : B → Finset (Idx ℓ)) (key : Idx ℓ → B)
    (h : ∀ b y, y ∈ I b ↔ key y = b) (f : Buf (Elt F) ℓ) :
    (ℓ ↦{fullShare} f : sProp 𝕄) = bigSep Finset.univ fun b => ℓ ↦[I b]{fullShare} f :=
  Ring.pointsTo_blocks I (fun b b' hb => Finset.disjoint_left.mpr fun y h1 h2 => hb (((h b y).mp h1).symm.trans ((h b' y).mp h2)))
    (Finset.eq_univ_of_forall fun y => Finset.mem_biUnion.mpr ⟨key y, Finset.mem_univ _, (h _ y).mpr rfl⟩) f

/-- The row tile an element lies in. -/
def keyE (y : S2048x8192.Idx) : Fin 8 := ⟨(y 0).val / 256, by have : (y 0).val < 2048 := (y 0).isLt; omega⟩
theorem mem_keyE (i : Fin 8) (y : S2048x8192.Idx) : y ∈ (eT i).view.set ↔ keyE y = i :=
  (mem_eT i y).trans ⟨fun h => Fin.ext h, fun h => congrArg Fin.val h⟩
/-- The half of the columns and the row tile an element lies in. -/
def keyO (y : S2048x16384.Idx) : Fin 2 × Fin 8 :=
  (⟨(y 1).val / 8192, by have : (y 1).val < 16384 := (y 1).isLt; omega⟩, ⟨(y 0).val / 256, by have : (y 0).val < 2048 := (y 0).isLt; omega⟩)
theorem mem_keyO (p : Fin 2 × Fin 8) (y : S2048x16384.Idx) : y ∈ (oT p.1 p.2).view.set ↔ keyO y = p :=
  (mem_oT p.1 p.2 y).trans ⟨fun h => Prod.ext (Fin.ext h.2) (Fin.ext h.1),
    fun h => ⟨congrArg (fun q : Fin 2 × Fin 8 => q.2.val) h, congrArg (fun q : Fin 2 × Fin 8 => q.1.val) h⟩⟩

theorem pt_e (c : Dev nD) (f : EBuf F) : (pt c main_v3_0 f : sProp 𝕄) = bigSep Finset.univ fun i : Fin 8 => eP c i f :=
  pt_blocks (ℓ := (c : Thread nD τ).loc main_v3_0) (fun i : Fin 8 => (eT i).view.set) keyE mem_keyE f

theorem pt_r (c : Dev nD) (f : EBuf F) : (pt c main_v5_1 f : sProp 𝕄) = bigSep Finset.univ fun i : Fin 8 => rP c i f :=
  pt_blocks (ℓ := (c : Thread nD τ).loc main_v5_1) (fun i : Fin 8 => (rT i).view.set) keyE
    (fun i y => (Eq.to_iff (congrArg (fun s : Finset S2048x8192.Idx => y ∈ s) (set_rT i))).trans (mem_keyE i y)) f

theorem fam16 (h h' : Fin 2) (hne : h' ≠ h) (Φ : Fin 2 × Fin 8 → sProp 𝕄) : bigSep Finset.univ Φ
    = iprop((bigSep Finset.univ fun i : Fin 8 => Φ (h, i)) ∗ bigSep Finset.univ fun i : Fin 8 => Φ (h', i)) := by
  rw [show (Finset.univ : Finset (Fin 2 × Fin 8)) = Finset.univ.map ⟨fun i : Fin 8 => (h, i), fun _ _ e => congrArg Prod.snd e⟩
      ∪ Finset.univ.map ⟨fun i : Fin 8 => (h', i), fun _ _ e => congrArg Prod.snd e⟩ from by revert h h'; decide,
    BI.bigSep_union (by revert h h'; decide), BI.bigSep_map, BI.bigSep_map]
  rfl

theorem pt_o (c : Dev nD) (f : OBuf F) : (pt c main_v5_0 f : sProp 𝕄)
    = iprop((bigSep Finset.univ fun i : Fin 8 => oP c (half c) i f) ∗ bigSep Finset.univ fun i : Fin 8 => oP c (half' c) i f) := by
  refine (pt_blocks (ℓ := (c : Thread nD τ).loc main_v5_0) (fun p : Fin 2 × Fin 8 => (oT p.1 p.2).view.set) keyO mem_keyO f).trans ?_
  exact fam16 (half c) (half' c) (half_ne c) fun p => oP c p.1 p.2 f

theorem fam_ex {I A : Type} [DecidableEq I] (s : Finset I) (Φ : I → A → sProp 𝕄) (a : A) :
    bigSep s (fun i => Φ i a) ⊢ bigSep s fun i => iprop(∃ a, Φ i a) :=
  bigSep_mono fun i _ => show Φ i a ⊢ iprop(∃ a, Φ i a) from by iintro H; iexists a; iexact H

/-! ## Semaphores -/

/-- The exchange's semaphores. -/
def osem1 (k : Fin 28) : SemLoc sig := .dma ⟨9 + k.val, by have := k.isLt; show 9 + k.val < 37; omega⟩

def tkE : Fin 18 ↪ Fin 28 := ⟨fun k => if h : k.val < 16 then ⟨k.val, by omega⟩ else ⟨k.val + 10, by omega⟩, by decide⟩
def sTE : Fin 8 ↪ Fin 28 := ⟨fun i => ⟨16 + i.val, by omega⟩, by decide⟩

theorem osem1_facts : Pipeline.OwnSemFacts spec1 osem1 := by decide

theorem ownSems1 (c : Dev nD) : (Pipeline.ownSems0 osem1 c : sProp 𝕄)
    = iprop((bigSep Finset.univ fun k : Fin 18 => semVal (dCell c (tk k)) 0) ∗ Plain c) := by
  unfold Plain
  show bigSep Finset.univ (fun k : Fin 28 => (semVal ((c : Thread nD τ), osem1 k) 0 : sProp 𝕄)) = _
  rw [show (Finset.univ : Finset (Fin 28)) = Finset.univ.map tkE ∪ (Finset.univ.map sTE ∪ ({24} ∪ {25})) from by decide,
    BI.bigSep_union (by decide), BI.bigSep_union (by decide), BI.bigSep_union (by decide), BI.bigSep_map, BI.bigSep_map,
    bigSep_singleton, bigSep_singleton,
    bigSep_congr (Ψ := fun k : Fin 18 => (semVal (dCell c (tk k)) 0 : sProp 𝕄)) fun k _ => by fin_cases k <;> rfl,
    bigSep_congr (Ψ := fun i : Fin 8 => (semVal (dCell c (sT i)) 0 : sProp 𝕄)) fun k _ => by fin_cases k <;> rfl]
  rfl

/-! ## Scoped buffers -/

/-- The staging buffers of the other region. -/
def Others (c : Dev nD) : sProp 𝕄 :=
  iprop((∃ f, pt c cc0_stg0_0 f) ∗ (∃ f, pt c cc0_stg0_1 f) ∗ (∃ f, pt c cc0_stg1_0 f) ∗ (∃ f, pt c cc0_stg1_1 f)
    ∗ (∃ f, pt c cc0_stg2_0 f) ∗ (∃ f, pt c cc0_stg2_1 f) ∗ (∃ f, pt c cc0_stg3_0 f) ∗ ∃ f, pt c cc0_stg3_1 f)

/-- The exchange's five scratch buffers. -/
def Scr (c : Dev nD) : sProp 𝕄 :=
  iprop((∃ f, pt c cc1_scratch0 f) ∗ (∃ f, pt c cc1_scratch1 f) ∗ (∃ f, pt c cc1_scratch2 f) ∗ (∃ f, pt c cc1_scratch3 f)
    ∗ ∃ f, pt c cc1_scratch4 f)

theorem scoped1 (c : Dev nD) : (Pipeline.scopedRest (Ix := Unit) (Name := ℕ) (U := UU) (Lvl := ℕ) (Val := Elt F) spec1 c : sProp 𝕄)
    ⊣⊢ iprop(Others c ∗ Scr c) := by
  rw [scopedRest1_eq]
  unfold Others Scr
  constructor
  · iintro ⟨H1, H2, H3, H4, H5, H6, H7, H8, HS⟩
    isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact HS
  · iintro ⟨⟨H1, H2, H3, H4, H5, H6, H7, H8⟩, HS⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS

theorem scr_chip (c : Dev nD) : (Scr c : sProp 𝕄) = Chip c := by
  unfold Scr Chip pt bP nP
  simp only [Memref.view_whole, View.set_whole]
  rfl

end Cert.KernelIdeal.Ex
-- ==== Proof.Gemm.lean ====
/- The body of the product kernel: what it leaves in its two output blocks. -/
module

public import proofs.«01_k».proof.Proof.Comm
public import Idealize.ShloMosaic.Lib.Exec
public import Idealize.ShloMosaic.Lib.WordCmp
public import Idealize.ShloMosaic.Lib.WritesUnit
public import Idealize.ShloMosaic.Lib.Pipeline.FrameBody

@[expose] public section

set_option maxRecDepth 16384

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.Tactic

variable {F : FTy → Type} [FloatOps F]

local notation "𝕄" => MT nD τ sig Unit (Elt F) ℕ UU ℕ

variable (E : Dev nD → EBuf F) (S : Dev nD → SBuf F)

/-! ## What one point leaves -/

/-- The rectangle of a block of sums the body reads and writes: its first column. -/
abbrev colR : Rect S1024x128 := Rect.unit (s := S1024x128) ![0, 0] S1024x1.size inb_S1024x128_S1024x1_0_0

/-- The first column of a block of sums. -/
def colOf (s : Vec F S1024x128 .f32) : Vec F S1024x1 .f32 := fun x => s (colR.emb x)

/-- Row `r` of a column. -/
def colIx (r : Fin 1024) : S1024x1.Idx := fun a => match a with
  | ⟨0, _⟩ => r
  | ⟨1, _⟩ => (0 : Fin 1)

/-- The block with its first column replaced by the column the body computes from it. -/
def sums (x0 : Vec F S1024x4096 .bf16) (x1 : Vec F S4096x512 .bf16) (s : Vec F S1024x128 .f32) : Vec F S1024x128 .f32 :=
  fun y => if (y 1).val = 0 then k0_pay4 x0 x1 (colOf s) (colIx (y 0)) else s y

/-- The grid point starts a row of blocks. -/
abbrev starts (i : grid0.Coords) : Prop :=
  (Scalar.cmpi .ne (Scalar.extui (Scalar.cmpi .eq (BitVec.ofNat 32 (i 1).val) 0#32)) 0#32) = 1#1

theorem starts_iff (t : Fin cfg0.N) : starts (grid0.coords t) ↔ t.val % 16 = 0 := by
  have ht : t.val < 32 := Nat.lt_of_lt_of_eq t.isLt N_0
  have e1 : (grid0.coords t 1).val = t.val / 1 % 16 := Pipeline.Grid.coords_val t 1 (by decide) rfl
  simp only [starts, e1]
  word_cmp

section Reads
variable (v : View sig .tc .vmem S1024x128 .f32) (f : v.ty.Contents (Elt F))

theorem readAt_col : v.readAt (Elt F) colR.toLoadRect f = colOf (v.read (Elt F) f) := rfl

theorem read_col (L : List (View.Piece (Elt F) S1024x128 .f32)) {x0 y0 : Vec F S1024x4096 .bf16} {x1 y1 : Vec F S4096x512 .bf16}
    {s : Vec F S1024x128 .f32} {k : Vec F S1024x1 .f32} (h0 : y0 = x0) (h1 : y1 = x1) (hk : k = colOf s)
    (hs : v.read (Elt F) (v.writes (Elt F) f L) = s) :
    v.read (Elt F) (v.writes (Elt F) f (⟨colR, k0_pay4 y0 y1 k⟩ :: L)) = sums x0 x1 s := by
  subst h0 h1 hk
  funext y
  unfold sums
  by_cases h : (y 1).val = 0
  · rw [if_pos h]
    refine View.read_writes_cons_unit_of_mem v f _ _ _ y _ rfl fun a => ?_
    fin_cases a
    · exact (Nat.zero_add _).symm
    · exact h
  · rw [if_neg h, ← hs]
    refine View.read_writes_cons_unit_of_not_mem v f _ _ _ y rfl 1 (Or.inr ?_)
    show 0 + 1 ≤ _
    omega

end Reads

set_option maxHeartbeats 1000000 in
/-- One run of the body on whole staging buffers: the two inputs are left as found, the block of exponentials is written
whole, and the column of sums is added to, from zero where a row of blocks starts. -/
theorem gemm_spec (c : Dev nD) (i : grid0.Coords) (arg2 : Memref sig .tc .vmem S1024x4096 .bf16) (harg2 : arg2.IsWhole)
    (arg3 : Memref sig .tc .vmem S4096x512 .bf16) (harg3 : arg3.IsWhole) (arg4 : Memref sig .tc .vmem S1024x512 .bf16)
    (harg4 : arg4.IsWhole) (arg5 : Memref sig .tc .vmem S1024x128 .f32) (harg5 : arg5.IsWhole)
    (x0 : Vec F S1024x4096 .bf16) (x1 : Vec F S4096x512 .bf16) (s : Vec F S1024x128 .f32) (Q : PUnit → sProp 𝕄) :
    iprop(owns (c : Thread nD τ) arg2 fullShare x0 ∗ owns (c : Thread nD τ) arg3 fullShare x1
        ∗ (∃ d, owns (c : Thread nD τ) arg4 fullShare d) ∗ (∃ d, ⌜¬starts i → d = s⌝ ∗ owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1)
            ∗ owns (c : Thread nD τ) arg5 fullShare (sums x0 x1 (if starts i then k0_pay3 else s))) -∗ Q ⟨⟩))
      ⊢ wp frame (wpE (defs₀ (F := F)) Variants.none c none) Set.univ
          (cc0__gemm_body i arg2 harg2 arg3 harg3 arg4 harg4 arg5 harg5) Q := by
  simp only [cc0__gemm_body_eq_skeleton]; unfold cc0__gemm_body_skel
  unfold owns
  iintro ⟨⟨%f0, %hf0, H0⟩, ⟨%f1, %hf1, H1⟩, ⟨%d2, %f2, -, H2⟩, ⟨%d3, %hd, %f3, %hf3, H3⟩, Hk⟩
  obtain rfl := harg2.eq_unread hf0; obtain rfl := harg3.eq_unread hf1; obtain rfl := harg5.eq_unread hf3
  have e0 := (readAt_full arg2.view (harg2.unread x0) inb_S1024x4096_S1024x4096_0_0).trans hf0
  have e1 := (readAt_full arg3.view (harg3.unread x1) inb_S4096x512_S4096x512_0_0).trans hf1
  by_cases hc : starts i
  · rw [if_pos hc]
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      exact (read_writes_full arg4.view f2 inb_S1024x512_S1024x512_0_0 _)
    · iexists _; isplitr
      swap; · iexact H3
      ipureintro
      refine read_col _ _ _ rfl rfl ?_ (read_writes_full arg5.view _ inb_S1024x128_S1024x128_0_0 _)
      unfold gemm_spec.sl.v11
      exact congrArg colOf (read_writes_full arg5.view _ inb_S1024x128_S1024x128_0_0 _)
  · rw [if_neg hc]
    obtain rfl := hd hc
    sl_exec (disch := first | sl_exact hc)
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro
      exact (read_writes_full arg4.view f2 inb_S1024x512_S1024x512_0_0 _)
    · iexists _; isplitr
      swap; · iexact H3
      ipureintro
      exact read_col _ _ [] rfl rfl (congrArg colOf hf3) hf3

end Cert.KernelIdeal.Ex
-- ==== Proof.Reg0.lean ====
/- The first region: the product kernel over its grid. -/
module

public import proofs.«01_k».proof.Proof.Gemm
public import proofs.«01_k».proof.Proof.Gen.KernelIdeal.Regions

@[expose] public section

set_option maxRecDepth 16384

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The rows of `x` and the columns of `W` that point `t` multiplies. -/
def xBlk (c : Dev nD) (t : Fin cfg0.N) : Vec F S1024x4096 .bf16 := (win0_0.blk t).view.read (Elt F) (V1 m c main_v1)
def wBlk (c : Dev nD) (t : Fin cfg0.N) : Vec F S4096x512 .bf16 := (win0_1.blk t).view.read (Elt F) (V1 m c main_v2)

/-- The block of sums after point `n`: from zero at the start of a row of blocks. -/
def sumsAt (c : Dev nD) : (n : ℕ) → n < cfg0.N → Vec F S1024x128 .f32
  | 0, h => sums (xBlk m c ⟨0, h⟩) (wBlk m c ⟨0, h⟩) k0_pay3
  | n + 1, h => sums (xBlk m c ⟨n + 1, h⟩) (wBlk m c ⟨n + 1, h⟩)
      (if (n + 1) % 16 = 0 then k0_pay3 else sumsAt c n (Nat.lt_of_succ_lt h))

/-- The block of sums before point `t`'s additions. -/
def sumsBefore (c : Dev nD) (t : Fin cfg0.N) : Vec F S1024x128 .f32 :=
  sumsAt m c (t.val - 1) (Nat.lt_of_le_of_lt (Nat.sub_le _ _) t.isLt)

theorem sumsAt_eq (c : Dev nD) (t : Fin cfg0.N) :
    sumsAt m c t.val t.isLt = sums (xBlk m c t) (wBlk m c t) (if starts (grid0.coords t) then k0_pay3 else sumsBefore m c t) := by
  obtain ⟨n, hn⟩ := t
  cases n with
  | zero => rw [if_pos ((starts_iff ⟨0, hn⟩).mpr rfl)]; rfl
  | succ n =>
    by_cases h : (n + 1) % 16 = 0
    · rw [if_pos ((starts_iff ⟨n + 1, hn⟩).mpr h)]
      show sums _ _ (if _ then _ else _) = _
      rw [if_pos h]
    · rw [if_neg fun h' => h ((starts_iff ⟨n + 1, hn⟩).mp h')]
      show sums _ _ (if _ then _ else _) = _
      rw [if_neg h]
      rfl

/-- The region's data on device `c`: each input's buffer keeps its block, the outputs' hold the exponentials and the sums so
far; the device owes throughout what the exchange will pay. -/
def dat0 (c : Dev nD) : Dat τ (Elt F) Unit ℕ UU ℕ cfg0 c where
  A w := V1 m c (Pipeline.arrRef spec0 w)
  after w t := match w with
    | ⟨0, _⟩ => xBlk m c t
    | ⟨1, _⟩ => wBlk m c t
    | ⟨2, _⟩ => k0_pay2 (xBlk m c t) (wBlk m c t)
    | ⟨3, _⟩ => sumsAt m c t.val t.isLt
  Φ _ := Pipeline.ΦA spec0 c
  q _ := fullShare
  owed _ := O₀ c

theorem dat0_A (c : Dev nD) (w : Fin cfg0.W) : (dat0 m c).A w = V1 m c (Pipeline.arrRef spec0 w) := by dsimp only [dat0]

theorem after0_0 (c : Dev nD) (t : Fin cfg0.N) : (dat0 m c).after 0 t = xBlk m c t := by dsimp only [dat0]
theorem after0_1 (c : Dev nD) (t : Fin cfg0.N) : (dat0 m c).after 1 t = wBlk m c t := by dsimp only [dat0]
theorem after0_2 (c : Dev nD) (t : Fin cfg0.N) : (dat0 m c).after 2 t = k0_pay2 (xBlk m c t) (wBlk m c t) := by dsimp only [dat0]
theorem after0_3 (c : Dev nD) (t : Fin cfg0.N) : (dat0 m c).after 3 t = sumsAt m c t.val t.isLt := by dsimp only [dat0]

theorem before0_0 (c : Dev nD) (t : Fin cfg0.N) (d) : (dat0 m c).before 0 t d = xBlk m c t :=
  ((dat0 m c).before_in_eq_fetched 0 rfl (fun _ => rfl) (fun _ _ _ => rfl)
    (fun t => by rw [after0_0]; unfold Dat.blockOf xBlk; rw [dat0_A]) t d).trans
    (by unfold Dat.fetched Dat.blockOf xBlk; rw [dat0_A]; rfl)
theorem before0_1 (c : Dev nD) (t : Fin cfg0.N) (d) : (dat0 m c).before 1 t d = wBlk m c t :=
  ((dat0 m c).before_in_eq_fetched 1 rfl (fun _ => rfl) (fun _ _ _ => rfl)
    (fun t => by rw [after0_1]; unfold Dat.blockOf wBlk; rw [dat0_A]) t d).trans
    (by unfold Dat.fetched Dat.blockOf wBlk; rw [dat0_A]; rfl)
theorem before0_3 (c : Dev nD) (t : Fin cfg0.N) (h : ¬starts (grid0.coords t)) (d) : (dat0 m c).before 3 t d = sumsBefore m c t := by
  have h0 : ¬t.val % 16 = 0 := fun h' => h ((starts_iff t).mpr h')
  have hN : t.val < 32 := lt_of_lt_of_eq t.isLt (show cfg0.N = 32 from N_0)
  rw [Dat.before_out_kept _ 3 rfl t (by omega)
    (Bool.eq_false_iff.mpr fun h => by have := (flush0_3 _).mp h; dsimp only at this; omega) (fun _ => rfl) (fun _ _ => rfl)]
  dsimp only [dat0]
  rfl

/-- The body at point `t`, its windows one by one. -/
theorem body0 (c : Dev nD) (t : Fin cfg0.N) :
    iprop((dat0 m c).Φ t.castSucc ∗ (dat0 m c).owesAt () t.castSucc
      ∗ (∃ d, owns (c : Thread nD τ) (win0_0.stage (cfg0.slots t 0)) fullShare ((dat0 m c).before 0 t d))
      ∗ (∃ d, owns (c : Thread nD τ) (win0_1.stage (cfg0.slots t 1)) fullShare ((dat0 m c).before 1 t d))
      ∗ (∃ d, owns (c : Thread nD τ) (win0_2.stage (cfg0.slots t 2)) fullShare ((dat0 m c).before 2 t d))
      ∗ (∃ d, owns (c : Thread nD τ) (win0_3.stage (cfg0.slots t 3)) fullShare ((dat0 m c).before 3 t d)))
    ⊢ wp frame (wpE (defs₀ (F := F)) Variants.none c none) Set.univ (bodyAt0 t) fun _ =>
      iprop((dat0 m c).Φ t.succ ∗ (dat0 m c).owesAt () t.succ
      ∗ owns (c : Thread nD τ) (win0_0.stage (cfg0.slots t 0)) fullShare ((dat0 m c).after 0 t)
      ∗ owns (c : Thread nD τ) (win0_1.stage (cfg0.slots t 1)) fullShare ((dat0 m c).after 1 t)
      ∗ owns (c : Thread nD τ) (win0_2.stage (cfg0.slots t 2)) fullShare ((dat0 m c).after 2 t)
      ∗ owns (c : Thread nD τ) (win0_3.stage (cfg0.slots t 3)) fullShare ((dat0 m c).after 3 t)) := by
  unfold bodyAt0
  simp only [before0_0, before0_1]
  rw [show (dat0 m c).Φ t.succ = (dat0 m c).Φ t.castSucc from rfl,
    show (dat0 m c).owesAt () t.succ = (dat0 m c).owesAt () t.castSucc from rfl, after0_0, after0_1, after0_2, after0_3, sumsAt_eq]
  iintro ⟨HΦ, Ho, ⟨%d0, H0⟩, ⟨%d1, H1⟩, ⟨%d2, H2⟩, ⟨%d3, H3⟩⟩
  iapply (gemm_spec c (grid0.coords t) _ _ _ _ _ _ _ _ (xBlk m c t) (wBlk m c t) (sumsBefore m c t) _)
  isplitl [H0]; · iexact H0
  isplitl [H1]; · iexact H1
  isplitl [H2]; · iexists _; iexact H2
  isplitl [H3]
  · iexists _; isplitr
    swap; · iexact H3
    ipureintro; exact fun h => before0_3 m c t h d3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) m c) (defs₀ (F := F)) Variants.none () Set.univ := fun t => by
  rw [bigSep_W0, bigSep_W0, defs₀_row0]
  exact triple_restated (body0 m c t) rfl .rfl fun _ => .rfl

end Cert.KernelIdeal.Ex
-- ==== Proof.Reg1.lean ====
/- The second region: the exchange. -/
module

public import proofs.«01_k».proof.Proof.Tiles
public import proofs.«01_k».proof.Proof.Reg0
public import Idealize.ShloMosaic.Lib.Rounds.Family
public import Idealize.ShloMosaic.Lib.Pipeline.RegionArraysS
public import Idealize.ShloMosaic.Lib.Pipeline.RegionTalk

@[expose] public section

set_option maxRecDepth 16384

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers between the items of the program -/

/-- After the product kernel. -/
def W2 (c : Dev nD) : Valuation τ sig (Elt F) := Pipeline.afterRegion (dat0 m c) (V1 m c)
/-- After the host's slice of the sums. -/
def W3 (c : Dev nD) : Valuation τ sig (Elt F) := StableHlo.after hostOps1 (W2 m c)
/-- The numerators device `c` computed. -/
def Em (c : Dev nD) : EBuf F := W3 m c main_v3_0
/-- Its part of the row sums, as staged for the exchange. -/
def Sm (c : Dev nD) : SBuf F := (win1_0.blk t1_0).view.read (Elt F) (W3 m c main_v4)
/-- After the exchange. -/
def W4 (c : Dev nD) : Valuation τ sig (Elt F) :=
  Function.update (Function.update (W3 m c) (Proc.devRef .tc main_v5_0) (outW (Em m) (Sm m) c)) (Proc.devRef .tc main_v5_1) (Em m (nbr c))

/-- The buffers the exchange addresses itself, and all but its window's array. -/
def Hs : Finset (DevRef τ sig) := {Proc.devRef .tc main_v3_0, Proc.devRef .tc main_v5_0, Proc.devRef .tc main_v5_1}
def Sr : Finset (DevRef τ sig) := Pipeline.ucRefs τ sig \ Pipeline.arrRefs spec1

theorem held_Hs (c : Dev nD) (W : Valuation τ sig (Elt F)) : (StableHlo.held (c : Thread nD τ) Hs W : sProp 𝕄)
    = iprop(pt c main_v3_0 (W main_v3_0) ∗ pt c main_v5_0 (W main_v5_0) ∗ pt c main_v5_1 (W main_v5_1)) := by
  unfold StableHlo.held
  rw [bigSep_eq_bigSepL_of_eq [Proc.devRef .tc main_v3_0, Proc.devRef .tc main_v5_0, Proc.devRef .tc main_v5_1] (by decide) (by decide)]
  rfl

theorem W4_of (c : Dev nD) (b : DevRef τ sig) (h0 : b ≠ Proc.devRef .tc main_v5_0) (h1 : b ≠ Proc.devRef .tc main_v5_1) :
    W4 m c b = W3 m c b := by
  unfold W4
  rw [Function.update_of_ne h1, Function.update_of_ne h0]
theorem W4_v3 (c : Dev nD) : W4 m c main_v3_0 = Em m c :=
  W4_of m c _ (StableHlo.devRef_ne_of_ne (by decide)) (StableHlo.devRef_ne_of_ne (by decide))
theorem W4_out (c : Dev nD) : W4 m c main_v5_0 = outW (Em m) (Sm m) c := by
  unfold W4
  rw [Function.update_of_ne (StableHlo.devRef_ne_of_ne (by decide)), Function.update_self]
theorem W4_recv (c : Dev nD) : W4 m c main_v5_1 = Em m (nbr c) := by
  unfold W4
  rw [Function.update_self]

/-! ## What enters the exchange and what leaves it -/

/-- The protocol's resources, as the launch leaves them. -/
def Tk (c : Dev nD) : sProp 𝕄 :=
  iprop(∃ K : GSem nD τ sig → ℕ, Inv (Em m) (Sm m) K ∗ reached ER (barCell (nbr c)) 0 ∗ atPos ER (barCell c) 0 ∅ 0
    ∗ (bigSep Finset.univ fun k : Fin 18 => openTok ER (dCell c (tk k))) ∗ Toks c ∗ Creds c)
/-- The same, the kernel's own cells opened. -/
def Xk (c : Dev nD) : sProp 𝕄 :=
  iprop(∃ K : GSem nD τ sig → ℕ, levAts L lv ∗ Inv (Em m) (Sm m) K ∗ reached ER (barCell (nbr c)) 0 ∗ atPos ER (barCell c) 0 ∅ 0
    ∗ (bigSep Finset.univ fun k : Fin 18 => iprop(atPos ER (dCell c (tk k)) 0 ∅ 0 ∗ reached ER (dCell c (tk k)) 0))
    ∗ Toks c ∗ Creds c ∗ Plain c)
def Yk (c : Dev nD) : sProp 𝕄 := semVal (barCell c) 0

theorem invs_tk (K : GSem nD τ sig → ℕ) (c : Dev nD) :
    Inv (Em m) (Sm m) K ⊢ bigSep Finset.univ fun k : Fin 18 => cellInv ER (Rd (Em m) (Sm m)) (K (dCell c (tk k))) (dCell c (tk k)) :=
  bigSep_intro_persistent fun k _ => inv_tk (Em m) (Sm m) K c k

theorem hopen1 (c : Dev nD) : iprop(Tk m c ∗ Pipeline.ownSems0 osem1 c ∗ levAts L lv) ⊢ (|={Set.univ}=> Xk m c : sProp 𝕄) := by
  rw [ownSems1]
  unfold Tk Xk
  iintro ⟨⟨%K, #Hinv, #Hr, Hat, Hop, Htok, Hcr⟩, ⟨Hs, Hpl⟩, #Hlev⟩
  ihave Hi := (invs_tk m K c) $$ Hinv
  imod (Rounds.cells_open ER (Rd (Em m) (Sm m)) Finset.univ (fun k : Fin 18 => dCell c (tk k)) (fun k => K (dCell c (tk k)))
    (Es := Set.univ) fun _ _ => Set.mem_univ _) $$ [Hi Hop Hs] with Hats
  · isplitl [Hi Hop]
    · rw [fam_two]
      isplitl [Hi]; · iexact Hi
      iexact Hop
    iexact Hs
  imodintro
  iexists K
  isplitr; · iexact Hlev
  isplitr; · iexact Hinv
  isplitr; · iexact Hr
  isplitl [Hat]; · iexact Hat
  isplitl [Hats]; · iexact Hats
  isplitl [Htok]; · iexact Htok
  isplitl [Hcr]; · iexact Hcr
  iexact Hpl

/-! ## The region's data -/

abbrev scopedR (c : Dev nD) : sProp 𝕄 := Pipeline.scopedRest (Ix := Unit) (Name := ℕ) (U := UU) (Lvl := ℕ) (Val := Elt F) spec1 c

def Φin (c : Dev nD) : sProp 𝕄 :=
  iprop(scopedR c ∗ (∃ r, prngReg c r) ∗ StableHlo.held (c : Thread nD τ) Hs (W3 m c) ∗ Xk m c)
def Φout (c : Dev nD) : sProp 𝕄 :=
  iprop(scopedR c ∗ (∃ r, prngReg c r) ∗ StableHlo.held (c : Thread nD τ) Hs (W4 m c) ∗ Pipeline.ownSems0 osem1 c ∗ Yk c)

def dat1 (c : Dev nD) : Dat τ (Elt F) Unit ℕ UU ℕ cfg1 c where
  A w := W3 m c (Pipeline.arrRef spec1 w)
  after w t := match w with
    | ⟨0, _⟩ => Sm m c
  Φ t := if t.val = 0 then Φin m c else Φout m c
  q _ := fullShare
  owed t := if t.val = 0 then O₀ c else 0

theorem dat1_A (c : Dev nD) (w : Fin cfg1.W) : (dat1 m c).A w = W3 m c (Pipeline.arrRef spec1 w) := by dsimp only [dat1]
theorem after1_0 (c : Dev nD) (t : Fin cfg1.N) : (dat1 m c).after 0 t = Sm m c := by dsimp only [dat1]

theorem blk1 (c : Dev nD) (t : Fin cfg1.N) : (win1_0.blk t).view.read (Elt F) (W3 m c main_v4) = Sm m c := by
  obtain rfl := fin_N1 t
  rfl

theorem before1_0 (c : Dev nD) (t : Fin cfg1.N) (d) : (dat1 m c).before 0 t d = Sm m c :=
  ((dat1 m c).before_fetched 0 t (fetch1_0 t) d).trans
    (by unfold Dat.fetched Dat.blockOf; rw [dat1_A]; exact blk1 m c t)

theorem Φ1_first (c : Dev nD) : (dat1 m c).Φ t1_0.castSucc = Φin m c := by
  dsimp only [dat1]; exact if_pos rfl
theorem Φ1_last (c : Dev nD) : (dat1 m c).Φ t1_0.succ = Φout m c := by
  dsimp only [dat1]; exact if_neg (by decide)
theorem owed1_first (c : Dev nD) : (dat1 m c).owed t1_0.castSucc = O₀ c := by
  dsimp only [dat1]; exact if_pos rfl
theorem owed1_last (c : Dev nD) : (dat1 m c).owed t1_0.succ = 0 := by
  dsimp only [dat1]; exact if_neg (by decide)

theorem owesAt_intro {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- The staging buffer held at contents `f` is the window's buffer holding `f`. -/
theorem stage1 (c : Dev nD) (t : Fin cfg1.N) (f : SBuf F) :
    (owns (c : Thread nD τ) (win1_0.stage (cfg1.slots t 0)) fullShare f : sProp 𝕄) ⊣⊢ gP c f := by
  show (owns (c : Thread nD τ) stg fullShare f : sProp 𝕄) ⊣⊢ gP c f
  unfold owns gP
  constructor
  · iintro ⟨%g, %hg, H⟩
    have e : g = f := hg
    subst e
    iexact H
  · iintro H
    iexists f
    isplitr; · ipureintro; rfl
    iexact H

theorem scopedC (c : Dev nD) : scopedR (F := F) c ⊣⊢ iprop(Others c ∗ Chip c) := scr_chip (F := F) c ▸ scoped1 c

theorem body1 (c : Dev nD) :
    iprop((dat1 m c).Φ t1_0.castSucc ∗ (dat1 m c).owesAt () t1_0.castSucc
      ∗ (∃ d, owns (c : Thread nD τ) (win1_0.stage (cfg1.slots t1_0 0)) fullShare ((dat1 m c).before 0 t1_0 d)))
    ⊢ wp frame (wpE (defs₀ (F := F)) Variants.none c none) Set.univ (bodyAt1 t1_0) fun _ =>
      iprop((dat1 m c).Φ t1_0.succ ∗ (dat1 m c).owesAt () t1_0.succ
      ∗ owns (c : Thread nD τ) (win1_0.stage (cfg1.slots t1_0 0)) fullShare ((dat1 m c).after 0 t1_0)) := by
  rw [bodyP_eq, Φ1_first, Φ1_last, after1_0]
  simp only [before1_0]
  unfold Φin Φout Xk Yk scopedR
  rw [held_Hs, held_Hs, ownSems1, W4_v3, W4_out, W4_recv, show W3 m c main_v3_0 = Em m c from rfl]
  simp only [pt_e, pt_o, pt_r]
  show _ ⊢ WP c (bodyP (F := F)) _
  iintro ⟨⟨Hsc, Hp, ⟨He, ⟨Ho, Ho'⟩, Hr⟩, ⟨%K, #Hlev, #Hinv, #Hrb, Hat, Hats, Htok, Hcr, Hpl⟩⟩, HO, ⟨%d, Hg⟩⟩
  ihave HO := (owesAt_elim (dat1 m c) _ (O₀ c) (owed1_first m c)) $$ HO
  ihave Hg := (stage1 c t1_0 (Sm m c)).1 $$ Hg
  ihave Hsc := (scopedC c).1 $$ Hsc
  icases Hsc with ⟨Hoth, Hchip⟩
  ihave Ho := (fam_ex Finset.univ (fun i f => oP c (half c) i f) _) $$ Ho
  ihave Ho' := (fam_ex Finset.univ (fun i f => oP c (half' c) i f) _) $$ Ho'
  ihave Hr := (fam_ex Finset.univ (fun i f => rP c i f) _) $$ Hr
  iapply (body_spec (Em m) (Sm m) K c _)
  unfold BodyPre BodyPost
  isplitr [Hp Hoth]
  · isplitr; · iexact Hlev
    isplitr; · iexact Hinv
    isplitr; · iexact Hrb
    isplitl [Hat]; · iexact Hat
    isplitl [Hats]; · iexact Hats
    isplitl [Htok]; · iexact Htok
    isplitl [Hcr]; · iexact Hcr
    isplitl [Hpl]; · iexact Hpl
    isplitl [Hchip]; · iexact Hchip
    isplitl [Hg]; · iexact Hg
    isplitl [He]; · iexact He
    isplitl [Ho]; · iexact Ho
    isplitl [Ho']; · iexact Ho'
    isplitl [Hr]; · iexact Hr
    iexact HO
  iintro ⟨Hb, Hs, Hpl, Hchip, Hg, He, Ho, Ho', Hr, HO⟩
  isplitr [HO Hg]
  · isplitl [Hoth Hchip]
    · iapply (scopedC c).2
      isplitl [Hoth]; · iexact Hoth
      iexact Hchip
    isplitl [Hp]; · iexact Hp
    isplitl [He Ho Ho' Hr]
    · isplitl [He]; · iexact He
      isplitl [Ho Ho']
      · isplitl [Ho]; · iexact Ho
        iexact Ho'
      iexact Hr
    isplitl [Hs Hpl]
    · isplitl [Hs]; · iexact Hs
      iexact Hpl
    iexact Hb
  isplitl [HO]
  · iapply (owesAt_intro (dat1 m c) _ 0 (owed1_last m c) rfl)
    iexact HO
  iapply (stage1 c t1_0 (Sm m c)).2
  iexact Hg

theorem defs₀_row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) m c) (defs₀ (F := F)) Variants.none () Set.univ := fun t => by
  obtain rfl := fin_N1 t
  rw [bigSep_W1, bigSep_W1, defs₀_row1]
  exact triple_restated (body1 m c) rfl .rfl fun _ => .rfl

end Cert.KernelIdeal.Ex
-- ==== Proof.Segs.lean ====
/- The program's four items as segments of a run. -/
module

public import proofs.«01_k».proof.Proof.Reg1
public import Idealize.ShloMosaic.Lib.Rounds.Family
public import Idealize.ShloMosaic.Lib.Pipeline.RegionArraysS
public import Idealize.ShloMosaic.Lib.Pipeline.RegionTalk

@[expose] public section

set_option maxRecDepth 16384

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg BodyObligation RegionSeg HostSeg)

variable {F : FTy → Type} [FloatOps F]

local notation "𝕄" => MT nD τ sig Unit (Elt F) ℕ UU ℕ

variable (m : (ℓ : Loc nD τ sig) → Buf (Elt F) ℓ) (ρ : Dev nD → PrngReg)

/-- The two regions' data. -/
def pdats : (p : Fin 2) → (c : Dev nD) → Dat τ (Elt F) Unit ℕ UU ℕ (cfgs p) c
  | 0, c => dat0 m c
  | 1, c => dat1 m c

/-- What rides beside the buffers until the exchange begins. -/
def Rest (c : Dev nD) : sProp 𝕄 := iprop((∃ Wd, owes (c : Thread nD τ) (O₀ c) Wd) ∗ (∃ r, prngReg c r) ∗ Tk m c)

def hseg0 : HostSeg (pcfgs (F := F)) defs₀ Variants.none L lv (Ix := Unit) (Name := ℕ) (U := UU) (Lvl := ℕ) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (Rest m)
def hseg1 : HostSeg (pcfgs (F := F)) defs₀ Variants.none L lv (Ix := Unit) (Name := ℕ) (U := UU) (Lvl := ℕ) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) (Rest m)

theorem share0 (c : Dev nD) (w : Fin (cfgs 0).W) : (pdats (F := F) m 0 c).share w = fullShare := (pdats m 0 c).share_full (fun _ => rfl) w
theorem share1 (c : Dev nD) (w : Fin (cfgs 1).W) : (pdats (F := F) m 1 c).share w = fullShare := (pdats m 1 c).share_full (fun _ => rfl) w

theorem lv_stage (p : Fin 2) (c : Dev nD) (w : Fin (Pipeline.pin (pcfgs (F := F)) adm p).W) (s : Fin ((Pipeline.pin (pcfgs (F := F)) adm p).win w).nbuf) :
    lv ((c : Thread nD τ), .dma (((Pipeline.pin (pcfgs (F := F)) adm p).win w).sem s)) () ≤ 0 := by
  refine le_of_eq ?_
  fin_cases p <;> fin_cases w <;> fin_cases s <;> rfl

theorem L_stage (p : Fin 2) (c : Dev nD) (w : Fin (Pipeline.pin (pcfgs (F := F)) adm p).W) (s : Fin ((Pipeline.pin (pcfgs (F := F)) adm p).win w).nbuf) :
    () ∈ L ((c : Thread nD τ), .dma (((Pipeline.pin (pcfgs (F := F)) adm p).win w).sem s)) := by
  rw [L_tc]; exact Finset.mem_singleton_self _

set_option backward.isDefEq.respectTransparency.types false in
def reg0 : RegionSeg (pcfgs (F := F)) adm (pdats m) () defs₀ Variants.none L lv 0 :=
  RegionSeg.ofHeldIn (pcfgs (F := F)) adm (pdats m) () defs₀ Variants.none L lv 0 O₀ (Pipeline.ucRefs τ sig)
    (fun c => iprop(∃ r, prngReg c r)) (fun c => iprop(∃ r, prngReg c r)) launch0.toP rfl (fun c => (obligation0 m c).loose)
    (fun _ _ => rfl) (fun _ => rfl) (share0 m) (fun _ => .rfl) (fun _ => .rfl) (fun _ => 0)
    ⟨L_stage 0, lv_stage 0, fun _ _ _ h => O₀_pos h⟩ (Tk m) (V1 m) (fun _ _ => rfl)

theorem arr0_sub : Pipeline.arrRefs (τ := τ) spec0 ⊆ Pipeline.ucRefs τ sig := Pipeline.arrRefs_sub_ucRefs spec0 (by decide)

set_option backward.isDefEq.respectTransparency.types false in
theorem reg0_pre (c : Dev nD) : iprop(StableHlo.held (c : Thread nD τ) (Pipeline.ucRefs τ sig) (V1 m c) ∗ Rest m c) ⊢ (reg0 m).pre c := by
  show _ ⊢ iprop(StableHlo.held (c.tc : Thread nD τ) (Pipeline.arrRefs spec0) (V1 m c) ∗ (∃ r, prngReg c r)
    ∗ (StableHlo.held (c.tc : Thread nD τ) (Pipeline.ucRefs τ sig \ Pipeline.arrRefs spec0) (V1 m c) ∗ Tk m c) ∗ ∃ Wd, owes (c : Thread nD τ) (O₀ c) Wd)
  rw [StableHlo.held_sub_split (c.tc : Thread nD τ) arr0_sub (V1 m c)]
  unfold Rest
  iintro ⟨⟨Ha, Hh⟩, HO, Hp, HT⟩
  isplitl [Ha]; · iexact Ha
  isplitl [Hp]; · iexact Hp
  isplitl [Hh HT]
  · isplitl [Hh]; · iexact Hh
    iexact HT
  iexact HO
set_option backward.isDefEq.respectTransparency.types false in
theorem reg0_post (c : Dev nD) : (reg0 m).post c ⊢ iprop(StableHlo.held (c : Thread nD τ) (Pipeline.ucRefs τ sig) (W2 m c) ∗ Rest m c) := by
  unfold reg0 Rest
  exact RegionSeg.ofHeldIn_post (pcs := pcfgs (F := F)) (p := 0) arr0_sub c

theorem Hs_sub : Hs ⊆ Sr := by
  intro b hb
  unfold Hs at hb
  simp only [Finset.mem_insert, Finset.mem_singleton] at hb
  unfold Sr
  rcases hb with rfl | rfl | rfl <;>
    exact Finset.mem_sdiff.mpr ⟨Finset.mem_filter.mpr ⟨StableHlo.devRef_mem_tcRefs _, by decide⟩, by decide⟩

theorem cut1 (c : Dev nD) (t : Fin ((Pipeline.pin (pcfgs (F := F)) adm 1).N + 1)) (g : GSem nD τ sig) (i : Unit)
    (h : 0 < (pdats (F := F) m 1 c).owed t g i) : i ∈ L g ∧ (0 : ℕ) < lv g i := by
  have e : (pdats (F := F) m 1 c).owed t = if t.val = 0 then O₀ c else 0 := rfl
  rw [e] at h
  split at h
  · exact O₀_pos h
  · exact absurd h (Nat.lt_irrefl 0)

theorem arr1 (c : Dev nD) (w : Fin (cfgs 1).W) (n : ℕ) : (pdats (F := F) m 1 c).arrAt w n = W4 m c (Pipeline.arrRef (cfgs 1).spec w) := by
  obtain rfl : w = (0 : Fin 1) := Subsingleton.elim (α := Fin 1) _ _
  refine (Dat.arrAt_in (pdats (F := F) m 1 c) 0 rfl n).trans ?_
  exact (dat1_A m c 0).trans (W4_of m c _ (StableHlo.devRef_ne_of_ne (by decide)) (StableHlo.devRef_ne_of_ne (by decide))).symm

set_option backward.isDefEq.respectTransparency.types false in
def reg1 : RegionSeg (pcfgs (F := F)) adm (pdats m) () defs₀ Variants.none L lv 1 :=
  RegionSeg.ofTalk (pcfgs (F := F)) adm (pdats m) () defs₀ Variants.none L lv 1 osem1 osem1_facts
    Hs Sr Hs_sub launch1.toP rfl (fun c => (obligation1 m c).loose)
    (fun _ => 0) O₀ (fun c => (zero_add (O₀ c)).symm) (fun _ => rfl) (fun _ => rfl) (share1 m)
    (W3 m) (W4 m) (fun c b hb => W4_of m c b
      (fun h => (Finset.mem_sdiff.mp hb).2 (by rw [h]; unfold Hs; simp))
      (fun h => (Finset.mem_sdiff.mp hb).2 (by rw [h]; unfold Hs; simp)))
    (Tk m) Yk (Xk m) Yk (hopen1 m) (fun _ => .rfl) (fun _ => .rfl)
    (fun c => by iintro H; imodintro; iexact H)
    (fun _ => 0) ⟨L_stage 1, lv_stage 1, cut1 m⟩ (fun _ => iprop(emp))
    (fun _ _ => rfl) (fun c w => arr1 m c w _)

theorem reg1_pre (c : Dev nD) : iprop(StableHlo.held (c : Thread nD τ) (Pipeline.ucRefs τ sig) (W3 m c) ∗ Rest m c) ⊢ (reg1 m).pre c := by
  show _ ⊢ iprop(StableHlo.held (c.tc : Thread nD τ) (Pipeline.arrRefs spec1) (W3 m c) ∗ (∃ r, prngReg c r)
    ∗ (StableHlo.held (c.tc : Thread nD τ) Sr (W3 m c) ∗ emp) ∗ Tk m c ∗ ∃ Wd, owes (c : Thread nD τ) (0 + O₀ c) Wd)
  rw [zero_add, StableHlo.held_sub_split (c.tc : Thread nD τ) (Pipeline.arrRefs_sub_ucRefs spec1 (by decide)) (W3 m c)]
  unfold Rest
  iintro ⟨⟨Ha, Hh⟩, HO, Hp, HT⟩
  isplitl [Ha]; · iexact Ha
  isplitl [Hp]; · iexact Hp
  isplitl [Hh]
  · isplitl [Hh]; · iexact Hh
    iempintro
  isplitl [HT]; · iexact HT
  iexact HO

/-- What a device ends with. -/
def Tₙ (c : Dev nD) : sProp 𝕄 := iprop(StableHlo.held (c : Thread nD τ) (Pipeline.ucRefs τ sig) (W4 m c) ∗ semVal (barCell c) 0)

theorem reg1_post (c : Dev nD) : (reg1 m).post c ⊢ iprop(Tₙ m c ∗ ∃ W, owes (c : Thread nD τ) (0 : CellTallies nD τ sig Unit) W) := by
  show iprop(StableHlo.held (c.tc : Thread nD τ) (Pipeline.arrRefs spec1) (W4 m c) ∗ (∃ r, prngReg c r)
    ∗ (StableHlo.held (c.tc : Thread nD τ) Sr (W4 m c) ∗ emp) ∗ Yk c ∗ ∃ Wd, owes (c : Thread nD τ) (0 : CellTallies nD τ sig Unit) Wd) ⊢ _
  unfold Tₙ Yk
  rw [StableHlo.held_sub_split (c.tc : Thread nD τ) (Pipeline.arrRefs_sub_ucRefs spec1 (by decide)) (W4 m c)]
  iintro ⟨Ha, -, ⟨Hh, -⟩, Hb, HO⟩
  isplitr [HO]
  · isplitl [Ha Hh]
    · isplitl [Ha]; · iexact Ha
      iexact Hh
    iexact Hb
  iexact HO

/-- The program as a list of segments. -/
def sgs : List (Pipeline.Seg (pcfgs (F := F)) adm (pdats m) () defs₀ Variants.none L lv) :=
  [.host (hseg0 m), .region (reg0 m), .host (hseg1 m), .region (reg1 m)]

end Cert.KernelIdeal.Ex
-- ==== Proof.Run.lean ====
/- The launch, and the program's run. -/
module

public import proofs.«01_k».proof.Proof.Segs
public import Idealize.ShloMosaic.Lib.Rounds.Family
public import Idealize.ShloMosaic.Lib.Pipeline.RegionArraysS
public import Idealize.ShloMosaic.Lib.Pipeline.RegionTalk

@[expose] public section

set_option maxRecDepth 16384

noncomputable section

namespace Cert.KernelIdeal.Ex

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg BodyObligation RegionSeg HostSeg)

variable {F : FTy → Type} [FloatOps F]

local notation "𝕄" => MT nD τ sig Unit (Elt F) ℕ UU ℕ

/-! ## The launch -/

def talkToks : Finset (GSem nD τ sig × ℕ × Unit) :=
  (barCells ∪ scCells).map ⟨fun g => (g, 0, ()), fun _ _ h => congrArg Prod.fst h⟩

theorem disjoint_cells : Disjoint barCells scCells := by
  rw [Finset.disjoint_left]
  rintro g h₁ h₂
  obtain ⟨c, -, rfl⟩ := Finset.mem_map.mp h₁
  obtain ⟨ck, -, h⟩ := Finset.mem_map.mp h₂
  have h2 : (SemLoc.dma (tk ck.2) : SemLoc sig) = .reg barrier0 := congrArg Prod.snd h
  exact absurd h2 (by simp)

/-- The pipeline's rounds, the exchange's rounds. -/
def u₀ : UU :=
  (initOf (Pipeline.cells (Pipeline.pin (pcfgs (F := F)) adm) cellOf_inj) (Pipeline.launchToks (Pipeline.pin (pcfgs (F := F)) adm) cellOf_inj),
    (launchOf barCells scCells talkToks, 1))

/-- The exchange's element, parked whole on device 0. -/
def G (c : Dev nD) : sProp 𝕄 := if c = 0 then BI.own (ER (launchOf barCells scCells talkToks)) else iprop(emp)

theorem G_all : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem over_bar (Φ : GSem nD τ sig → sProp 𝕄) : bigSep barCells Φ = bigSep Finset.univ fun c : Dev nD => Φ (barCell c) :=
  bigSep_map (s := Finset.univ) barEmb (Φ := Φ)
theorem over_sc (Φ : GSem nD τ sig → sProp 𝕄) :
    bigSep scCells Φ = bigSep Finset.univ fun c : Dev nD => bigSep Finset.univ fun k : Fin 18 => Φ (dCell c (tk k)) := by
  unfold scCells
  rw [bigSep_map, bigSep_univ_prod]
  rfl

/-- The tokens: the barrier's and the receiving cells' go to the neighbour that pays them. -/
theorem toks_deal : bigSep talkToks (fun x => (dutyTok ER x.1 x.2.1 x.2.2 : sProp 𝕄)) ⊢ bigSep Finset.univ fun c : Dev nD => Toks c := by
  unfold talkToks Toks
  rw [bigSep_map, BI.bigSep_union disjoint_cells, over_bar, over_sc]
  show iprop((bigSep Finset.univ fun c : Dev nD => dutyTok ER (barCell c) 0 ()) ∗ bigSep Finset.univ fun c : Dev nD => bigSep Finset.univ fun k : Fin 18 => dutyTok ER (dCell c (tk k)) 0 ()) ⊢ _
  simp only [fam18 (F := F), fam_two (F := F), tk_kS, tk_kR, tk_ss, tk_sr]
  rw [bigSep_univ_equiv nbrEquiv (fun c : Dev nD => (dutyTok ER (barCell c) 0 () : sProp 𝕄)),
    bigSep_univ_equiv nbrEquiv (fun c : Dev nD => (bigSep Finset.univ fun i : Fin 8 => dutyTok ER (dCell c (sR i)) 0 () : sProp 𝕄)),
    bigSep_univ_equiv nbrEquiv (fun c : Dev nD => (dutyTok ER (dCell c srS) 0 () : sProp 𝕄))]
  exact BI.Entails.refl _

/-! ### The credit -/

/-- What the neighbour owes the cell of semaphore `sm` at launch. -/
def due (sm : SemLoc sig) : ℕ :=
  (∑ i : Fin 8, if sm = .dma (sR i) then N else 0) + (if sm = .dma srS then Ns else 0) + (if sm = .reg barrier0 then 1 else 0)

theorem tally_nbr (d c : Dev nD) (sm s : SemLoc sig) (n : ℕ) :
    (tallyAt ((nbr d : Thread nD τ), s) () n : CellTallies nD τ sig Unit) ((c : Thread nD τ), sm) () = if d = nbr c then (if sm = s then n else 0) else 0 := by
  rw [tallyAt_apply]
  by_cases h : d = nbr c
  · subst h
    rw [nbr_nbr, if_pos rfl]
    exact if_congr ⟨fun h => congrArg Prod.snd h.1, fun h => ⟨by rw [h], rfl⟩⟩ rfl rfl
  · rw [if_neg h, if_neg]
    exact fun h1 => h (by rw [← nbr_nbr d]; exact congrArg nbr (congrArg (fun g : GSem nD τ sig => g.1.1) h1.1).symm)

theorem O₀_at (d c : Dev nD) (sm : SemLoc sig) : O₀ d ((c : Thread nD τ), sm) () = if d = nbr c then due sm else 0 := by
  unfold O₀ owedS owed due
  rw [Pi.add_apply, Finsupp.add_apply, Pi.add_apply, Finsupp.add_apply, Finset.sum_apply, Finsupp.finset_sum_apply]
  simp only [tally_nbr, Nat.zero_le, Finset.filter_true]
  split
  · rfl
  · simp

theorem launch_at (c : Dev nD) (sm : SemLoc sig) :
    tallyOn ((c : Thread nD τ), sm) (launchCredit (Pipeline.owing O₀) 0 ((c : Thread nD τ), sm)) = (tallyAt ((c : Thread nD τ), sm) () (due sm) : CellTallies nD τ sig Unit) := by
  unfold tallyAt; refine congrArg _ (Finsupp.ext fun u => ?_); cases u
  rw [Pipeline.launchCredit_owing, Finsupp.single_eq_same, Finset.sum_congr rfl fun d _ => O₀_at d c sm,
    Finset.sum_ite_eq' Finset.univ (nbr c) fun _ => due sm, if_pos (Finset.mem_univ _)]

theorem sR_inj {i j : Fin 8} (h : sR i = sR j) : i = j := by
  have := congrArg (fun s : DmaSem sig => s.val) h
  simp only [sR_val] at this
  exact Fin.ext (by omega)

theorem due_bar : due (.reg barrier0) = 1 := by unfold due; simp
theorem due_sr : due (.dma srS) = Ns := by
  have h (i : Fin 8) : ¬ (SemLoc.dma srS : SemLoc sig) = .dma (sR i) := fun h => by
    have := congrArg (fun s : DmaSem sig => s.val) (SemLoc.dma.inj h)
    simp only [sR_val, srS_val] at this
    omega
  unfold due
  simp only [h, if_false, Finset.sum_const_zero, if_true]
  simp
theorem due_sR (i : Fin 8) : due (.dma (sR i)) = N := by
  have h : ¬ (SemLoc.dma (sR i) : SemLoc sig) = .dma srS := fun h => by
    have := congrArg (fun s : DmaSem sig => s.val) (SemLoc.dma.inj h)
    simp only [sR_val, srS_val] at this
    omega
  unfold due
  rw [Finset.sum_eq_single i (fun j _ hj => if_neg fun h => hj (sR_inj (SemLoc.dma.inj h)).symm) (fun h => absurd (Finset.mem_univ i) h), if_pos rfl, if_neg h, if_neg (by simp), add_zero, add_zero]

def sRe : Fin 8 ↪ SemLoc sig := ⟨fun i => .dma (sR i), fun _ _ h => sR_inj (SemLoc.dma.inj h)⟩

theorem creds (c : Dev nD) : (Pipeline.launchCred O₀ c : sProp 𝕄) ⊢ Creds c := by
  unfold Pipeline.launchCred Creds
  simp only [launch_at]
  refine BI.Entails.trans (BI.bigSep_subset (t := {SemLoc.reg barrier0} ∪ (Finset.univ.map sRe ∪ {SemLoc.dma srS})) (Finset.subset_univ _)) ?_
  rw [BI.bigSep_union (by decide), BI.bigSep_union (by decide), bigSep_singleton, bigSep_singleton, bigSep_map, due_bar, due_sr]
  rw [show (bigSep Finset.univ fun i : Fin 8 => (cred (tallyAt (dCell c (sR i)) () N) : sProp 𝕄))
    = bigSep Finset.univ fun i : Fin 8 => cred (tallyAt (dCell c (sR i)) () (due (.dma (sR i)))) from bigSep_congr fun i _ => by rw [due_sR]]
  exact BI.Entails.refl _

/-! ### The first state -/

variable (m : (ℓ : Loc nD τ sig) → Buf (Elt F) ℓ) (ρ : Dev nD → PrngReg)

/-- What every device may consult. -/
def records (κ : GSem nD τ sig → ℕ) : sProp 𝕄 := iprop(Inv (Em m) (Sm m) κ ∗ bigSep barCells fun g => reached ER g 0)
instance records_persistent (κ : GSem nD τ sig → ℕ) : BI.Persistent (records m κ) := by unfold records Inv; infer_instance

/-- What is each device's own. -/
def linear (c : Dev nD) : sProp 𝕄 :=
  iprop(atPos ER (barCell c) 0 ∅ 0 ∗ (bigSep Finset.univ fun k : Fin 18 => openTok ER (dCell c (tk k))) ∗ Toks c)

def bundle (c : Dev nD) : sProp 𝕄 :=
  iprop(StableHlo.held (c : Thread nD τ) (Pipeline.ucRefs τ sig) (V0 m c) ∗ Creds c ∗ owes (c : Thread nD τ) (O₀ c) ∅ ∗ ∃ r, prngReg c r)

def T₀ (c : Dev nD) : sProp 𝕄 := iprop(StableHlo.held (c : Thread nD τ) (Pipeline.ucRefs τ sig) (V0 m c) ∗ Rest m c)

theorem reached_at (c : Dev nD) : (bigSep barCells fun g => (reached ER g 0 : sProp 𝕄)) ⊢ reached ER (barCell c) 0 :=
  bigSep_elim (Finset.mem_map_of_mem barEmb (Finset.mem_univ c))

theorem T₀_intro (κ : GSem nD τ sig → ℕ) (c : Dev nD) : iprop(records m κ ∗ (linear c ∗ bundle m c)) ⊢ T₀ m c := by
  unfold bundle T₀ Rest Tk linear records
  iintro ⟨⟨#HI, #HR⟩, ⟨Hat, Hop, Htok⟩, Hh, Hcr, HO, Hp⟩
  isplitl [Hh]; · iexact Hh
  isplitl [HO]; · iexists ∅; iexact HO
  isplitl [Hp]; · iexact Hp
  iexists κ
  isplitr; · iexact HI
  isplitr
  · iapply (reached_at (F := F) (nbr c))
    iexact HR
  isplitl [Hat]; · iexact Hat
  isplitl [Hop]; · iexact Hop
  isplitl [Htok]; · iexact Htok
  iexact Hcr

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, Hus, HO, Hcr, Hp, HG⟩
  isplitr [Hus HG]
  · isplitl [Hh]; · iexact Hh
    isplitl [Hcr]; · iapply (creds (F := F) c); iexact Hcr
    isplitl [HO]; · iexact HO
    iexists (ρ c); iexact Hp
  isplitl [Hus]; · iexact Hus
  iexact HG

theorem cores : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (iprop((bigSep Finset.univ fun c : Dev nD => bundle m c) ∗ (bigSep barCells fun g => semVal g 0)
      ∗ BI.own (ER (launchOf barCells scCells talkToks))) : sProp 𝕄) := by
  rw [over_bar (fun g => (semVal g 0 : sProp 𝕄)), ← G_all, ← fam_two, ← fam_two]
  exact bigSep_mono fun c _ => core m ρ c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (cores m ρ) $$ H
  icases H with ⟨HB, Hv, Hu⟩
  imod (Rounds.fund_launch ER (Rd (Em m) (Sm m)) disjoint_cells (fun g _ h => h) talkToks) $$ [Hv Hu] with ⟨%κ, -, #Hinv, #Hr, Hat, Hopen, Htok⟩
  · isplitl [Hv]; · iexact Hv
    iexact Hu
  imodintro
  iapply (bigSep_with_persistent (R := records m κ) (Φ := fun c => iprop(linear c ∗ bundle m c)) fun c _ => T₀_intro m κ c)
  isplitr
  · unfold records Inv
    isplitr; · iexact Hinv
    iexact Hr
  iapply (Entails.of_eq (fam_two Finset.univ (fun c : Dev nD => linear c) (fun c => bundle m c)).symm)
  isplitr [HB]
  · unfold linear
    iapply (Entails.of_eq (((fam_two (F := F) Finset.univ _ _).trans (congrArg _ (fam_two _ _ _))).symm))
    isplitl [Hat]; · iapply (Entails.of_eq (over_bar (F := F) (fun g => atPos ER g 0 ∅ 0))); iexact Hat
    isplitl [Hopen]; · iapply (Entails.of_eq (over_sc (F := F) (fun g => openTok ER g))); iexact Hopen
    iapply (toks_deal (F := F))
    iexact Htok
  iexact HB

/-! ## The run -/

theorem unscoped_eq : ∀ sm : SemLoc sig, sm.isScoped .tc = false → sm = .reg barrier0 := by decide

/-- A buffer no item writes. -/
theorem W4_kept (c : Dev nD) (r : Ref sig .tc) (h0 : r ∉ hostOps0_W) (h1 : r ∉ hostOps1_W) (ha : ∀ w, r ≠ Pipeline.arrRef spec0 w)
    (ho : r ≠ main_v5_0) (hr : r ≠ main_v5_1) : W4 m c r = m ((c : Thread nD τ).loc r) :=
  (W4_of m c _ (StableHlo.devRef_ne_of_ne ho) (StableHlo.devRef_ne_of_ne hr)).trans
    ((StableHlo.after_of_writes_sub hostOps1 _ hostOps1_writes h1).trans
      ((Pipeline.afterRegion_of_not_arr (dat0 m c) (V1 m c) ha).trans (V1_of m c r h0)))
theorem W4_arg0 (c : Dev nD) : W4 m c main_arg0 = m ((c : Thread nD τ).loc main_arg0) :=
  W4_kept m c main_arg0 (by decide) (by decide) (by decide) (by decide) (by decide)
theorem W4_arg1 (c : Dev nD) : W4 m c main_arg1 = m ((c : Thread nD τ).loc main_arg1) :=
  W4_kept m c main_arg1 (by decide) (by decide) (by decide) (by decide) (by decide)

set_option backward.isDefEq.respectTransparency.types false in
/-- Every execution ends with the buffers at `W4` and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v5_0) = outW (Em m) (Sm m) c) ∧ r.2.sem = fun _ => 0) :=
  Pipeline.θ_run_regions_kit_sems (pcfgs (F := F)) adm (pdats m) () cellOf_inj EP defs₀ Variants.none L lv m ρ main (sgs m)
    (fun c Q => by
      rewrite [main_chain c, Pipeline.Seg.run_eq_chain,
        show (sgs m).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (by simp only [sgs, Pipeline.Seg.pipes_host, Pipeline.Seg.pipes_region, Pipeline.Seg.pipes_nil]; decide)
    (O₀ := O₀) (hL := L_of_ne) (G := G) (u₀ := u₀)
    (hu₀ := by
      unfold u₀
      rw [G_all]
      iintro Hu
      ihave H := (ownU_pair _ _) $$ Hu
      icases H with ⟨HP, HX⟩
      imodintro
      isplitl [HP]; · iexact HP
      iexact HX)
    (T₀ := T₀ m) (Tₙ := Tₙ m)
    (hch := ⟨fun c => .rfl, fun c => reg0_pre m c, fun c => reg0_post m c, fun c => reg1_pre m c, fun c => reg1_post m c⟩)
    (hinit := init m ρ)
    (QY := fun c s => (∀ b ∈ Pipeline.ucRefs τ sig, s.mem ((c : Thread nD τ).1, b) = W4 m c b) ∧ s.sem (barCell c) = 0)
    (hfin := fun c s' => by
      unfold Tₙ StableHlo.held
      iintro ⟨⟨Hh, Hb⟩, HSI⟩
      icombine HSI Hb gives %hb
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c =>
        ⟨((h c).1 (Proc.devRef .tc main_arg0) (Finset.mem_filter.mpr ⟨StableHlo.devRef_mem_tcRefs main_arg0, by decide⟩)).trans (W4_arg0 m c),
          ((h c).1 (Proc.devRef .tc main_arg1) (Finset.mem_filter.mpr ⟨StableHlo.devRef_mem_tcRefs main_arg1, by decide⟩)).trans (W4_arg1 m c),
          ((h c).1 (Proc.devRef .tc main_v5_0) (Finset.mem_filter.mpr ⟨StableHlo.devRef_mem_tcRefs main_v5_0, by decide⟩)).trans (W4_out m c)⟩,
      sem_eq_zero hs fun c sm hsm => by
        obtain rfl := unscoped_eq sm hsm
        exact (h c).2⟩)

end Cert.KernelIdeal.Ex
-- ==== Proof.Frames.lean ====
/- The frames: every execution ends, the arguments as they were, every counter at zero. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.SL.Sem

/-- The two programs' bodies are one text. -/
theorem defs₀_eq : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl
  | 1, (t, s) => rfl
  | ⟨n + 2, h⟩, _ => exact absurd h (Nat.not_lt.2 (Nat.le_add_left _ _))
theorem defs_eq : @Cert.Kernel.defs Bits _ _ = @Cert.KernelIdeal.defs Bits _ _ :=
  congrArg (Pipeline.defs (Cert.KernelIdeal.pcfgs (F := Bits))) defs₀_eq

/-- The machine's program is the idealized one's text, so its run is the same at the machine's floats. -/
theorem frame_Kernel : Cert.quiescent_Kernel := fun m ρ _ => by
  rw [defs_eq]
  exact (θ_run Cert.KernelIdeal.defs _ _).mono (fun _ h => ⟨fun c => ⟨(h.1 c).1, (h.1 c).2.1⟩, h.2⟩) (Cert.KernelIdeal.Ex.run_main (F := Bits) m ρ)

theorem frame_KernelIdeal : Cert.quiescent_KernelIdeal := fun m ρ _ =>
  (θ_run Cert.KernelIdeal.defs _ _).mono (fun _ h => ⟨fun c => ⟨(h.1 c).1, (h.1 c).2.1⟩, h.2⟩) (Cert.KernelIdeal.Ex.run_main m ρ)

theorem frame_ReferenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run m ρ)

end Cert.Proof

end
-- ==== Proof.Payloads.lean ====
/- The kernels' arithmetic, read at an index over the extended reals. -/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Ex

open Idealize.ShloMosaic Idealize.ShloMosaic.TcCoe
open Cert.KernelIdeal.Gen

theorem expo_apply (a : FVec Ideal S1024x4096 .bf16) (b : FVec Ideal S4096x512 .bf16) (r : Fin 1024) (q : Fin 512) :
    k0_pay1 (F := Ideal) a b (ix2 r q) = Ideal.exp (∑ k : Fin 4096, a (ix2 r k) * b (ix2 k q)) := by
  pointwise [k0_pay1]

theorem numer_apply (a : FVec Ideal S1024x4096 .bf16) (b : FVec Ideal S4096x512 .bf16) (r : Fin 1024) (q : Fin 512) :
    k0_pay2 (F := Ideal) a b (ix2 r q) = Ideal.exp (∑ k : Fin 4096, a (ix2 r k) * b (ix2 k q)) := by
  pointwise [k0_pay2, k0_pay1]

theorem zeros_apply (y) : k0_pay3 (F := Ideal) y = 0 := by pointwise [k0_pay3]

theorem added_apply (a : FVec Ideal S1024x4096 .bf16) (b : FVec Ideal S4096x512 .bf16) (s : FVec Ideal S1024x1 .f32) (r : Fin 1024) :
    k0_pay4 (F := Ideal) a b s (ix2 r (0 : Fin 1)) = s (ix2 r (0 : Fin 1)) + ∑ q : Fin 512, Ideal.exp (∑ k : Fin 4096, a (ix2 r k) * b (ix2 k q)) := by
  pointwise [k0_pay4, k0_pay1]

theorem sums_col (a : FVec Ideal S1024x4096 .bf16) (b : FVec Ideal S4096x512 .bf16) (s : FVec Ideal S1024x128 .f32) (r : Fin 1024) :
    sums (F := Ideal) a b s (ix2 r (0 : Fin 128)) = s (ix2 r (0 : Fin 128)) + ∑ q : Fin 512, Ideal.exp (∑ k : Fin 4096, a (ix2 r k) * b (ix2 k q)) := by
  have e : colIx r = (ix2 r (0 : Fin 1) : S1024x1.Idx) := funext fun d => match d with
    | ⟨0, _⟩ => rfl
    | ⟨1, _⟩ => rfl
  refine (if_pos (show ((0 : Fin 128) : ℕ) = 0 from rfl)).trans ?_
  refine (congrArg (k0_pay4 (F := Ideal) a b (colOf (F := Ideal) s)) e).trans ((added_apply a b (colOf (F := Ideal) s) r).trans ?_)
  refine congrArg (fun z : EReal => z + _) (congrArg s (funext fun d => ?_))
  match d with
  | ⟨0, _⟩ => exact Fin.ext (by simp [Rect.emb, Rect.unit])
  | ⟨1, _⟩ => exact Fin.ext (by simp [Rect.emb, Rect.unit])

theorem recip_apply (a b : FVec Ideal S2048x1 .f32) (r : Fin 2048) :
    k1_pay1 (F := Ideal) a b (ix2 r (0 : Fin 1)) = Ideal.div 1 (a (ix2 r (0 : Fin 1)) + b (ix2 r (0 : Fin 1))) := by
  pointwise [k1_pay1]

theorem scaled_apply (e : FVec Ideal S256x8192 .bf16) (g : FVec Ideal S256x1 .f32) (r : Fin 256) (q : Fin 8192) :
    scaled (F := Ideal) e g (ix2 r q) = e (ix2 r q) * g (ix2 r (0 : Fin 1)) := by
  pointwise [scaled, k1_pay2]

end Cert.KernelIdeal.Ex

end
-- ==== Proof.Arrays.lean ====
/- What the product kernel leaves in its two arrays, over the extended reals. -/
module

public import proofs.«01_k».proof.Proof.Payloads

@[expose] public section

set_option maxRecDepth 16384

noncomputable section

namespace Cert.KernelIdeal.Ex

open Idealize.ShloMosaic Idealize.ShloMosaic.TcCoe
open Cert.KernelIdeal.Gen
open Idealize.ShloMosaic.Pipeline (Dat)

/-- The exponential of an entry of the product `x · w`. -/
def ex (x : FVec Ideal S2048x4096 .f32) (w : FVec Ideal S4096x8192 .f32) (r : Fin 2048) (q : Fin 8192) : EReal :=
  Ideal.exp (∑ k : Fin 4096, x (ix2 r k) * w (ix2 k q))

variable (m : (ℓ : Loc nD τ sig) → Buf (Elt Ideal) ℓ)

/-- A device's two arguments. -/
abbrev xA (c : Dev nD) : FVec Ideal S2048x4096 .f32 := m ((c : Thread nD τ).loc main_arg0)
abbrev wA (c : Dev nD) : FVec Ideal S4096x8192 .f32 := m ((c : Thread nD τ).loc main_arg1)

theorem V1_x (c : Dev nD) : (V1 m c main_v1 : S2048x4096.Idx → EReal) = xA m c := by after_results; rfl
theorem V1_w (c : Dev nD) : (V1 m c main_v2 : S4096x8192.Idx → EReal) = wA m c := by after_results; rfl

theorem idx : ∀ t : Fin cfg0.N, win0_0.index t = ![t.val / 16, 0] ∧ win0_1.index t = ![0, t.val % 16]
    ∧ win0_2.index t = ![t.val / 16, t.val % 16] ∧ win0_3.index t = ![t.val / 16, 0] :=
  (by decide +kernel : ∀ t : Fin grid0.N, win0_0.index t = ![t.val / 16, 0] ∧ win0_1.index t = ![0, t.val % 16]
    ∧ win0_2.index t = ![t.val / 16, t.val % 16] ∧ win0_3.index t = ![t.val / 16, 0])

theorem xBlk_apply (c : Dev nD) (t : Fin cfg0.N) (r : Fin 1024) (k : Fin 4096) (h : t.val / 16 * 1024 + r.val < 2048) :
    (xBlk m c t (ix2 r k) : EReal) = xA m c (ix2 ⟨t.val / 16 * 1024 + r.val, h⟩ k) := by
  rw [← V1_x]
  unfold xBlk
  blk_ext [idx t]

theorem wBlk_apply (c : Dev nD) (t : Fin cfg0.N) (k : Fin 4096) (q : Fin 512) (h : t.val % 16 * 512 + q.val < 8192) :
    (wBlk m c t (ix2 k q) : EReal) = wA m c (ix2 k ⟨t.val % 16 * 512 + q.val, h⟩) := by
  rw [← V1_w]
  unfold wBlk
  blk_ext [idx t]

theorem dot_blk (c : Dev nD) (t : Fin cfg0.N) (r : Fin 1024) (q : Fin 512) (h0 : t.val / 16 * 1024 + r.val < 2048)
    (h1 : t.val % 16 * 512 + q.val < 8192) :
    Ideal.exp (∑ k : Fin 4096, (xBlk m c t (ix2 r k) : EReal) * (wBlk m c t (ix2 k q) : EReal))
      = ex (xA m c) (wA m c) ⟨t.val / 16 * 1024 + r.val, h0⟩ ⟨t.val % 16 * 512 + q.val, h1⟩ := by
  unfold ex
  refine congrArg Ideal.exp (Finset.sum_congr rfl fun k _ => ?_)
  rw [xBlk_apply m c t r k h0, wBlk_apply m c t k q h1]

/-- A numerator's block, at the place of the array its index sits at. -/
theorem numer_point (c : Dev nD) (t : Fin cfg0.N) (y : S1024x512.Idx) (i : S2048x8192.Idx)
    (h0 : (i 0).val = t.val / 16 * 1024 + (y 0).val) (h1 : (i 1).val = t.val % 16 * 512 + (y 1).val) :
    (k0_pay2 (F := Ideal) (xBlk m c t) (wBlk m c t) y : EReal) = ex (xA m c) (wA m c) (i 0) (i 1) := by
  obtain ⟨r, q, rfl⟩ : ∃ (r : Fin 1024) (q : Fin 512), y = ix2 r q := ⟨y 0, y 1, eq_ix2 y⟩
  obtain ⟨r', q', rfl⟩ : ∃ (r' : Fin 2048) (q' : Fin 8192), i = ix2 r' q' := ⟨i 0, i 1, eq_ix2 i⟩
  have h0' : r'.val = t.val / 16 * 1024 + r.val := h0
  have h1' : q'.val = t.val % 16 * 512 + q.val := h1
  refine (numer_apply (xBlk m c t) (wBlk m c t) r q).trans ?_
  refine (dot_blk m c t r q (h0' ▸ r'.isLt) (h1' ▸ q'.isLt)).trans ?_
  exact congrArg₂ (ex (xA m c) (wA m c)) (Fin.ext h0'.symm) (Fin.ext h1'.symm)

/-- The numerators' array. -/
theorem arr_numer (c : Dev nD) : (dat0 m c).arrAt 2 cfg0.N
    = (fun y : S2048x8192.Idx => (ex (xA m c) (wA m c) (y 0) (y 1) : Ideal .bf16)) := by
  refine (dat0 m c).arrAt_eq_of_covers 2 _ (by decide +kernel) fun t _ y => ?_
  blk_simp
  rw [after0_2]
  exact numer_point m c t y _ (by blk_simp [idx t]) (by blk_simp [idx t])

/-- Column 0 of the sums' block, at the point that writes it back. -/
theorem sumsAt_flush (c : Dev nD) (t : Fin cfg0.N) (ht : t.val % 16 = 15) (r : Fin 1024) (h0 : t.val / 16 * 1024 + r.val < 2048) :
    (sumsAt m c t.val t.isLt (ix2 r (0 : Fin 128)) : EReal)
      = ∑ q : Fin 8192, ex (xA m c) (wA m c) ⟨t.val / 16 * 1024 + r.val, h0⟩ q := by
  have hN : t.val < 32 := Nat.lt_of_lt_of_eq t.isLt N_0
  have hs0 : ∀ t : Fin cfg0.N, t.val % 16 = 0 → ∀ r : Fin 1024, (sumsAt m c t.val t.isLt (ix2 r (0 : Fin 128)) : EReal)
      = (0 : EReal) + ∑ q : Fin 512, Ideal.exp (∑ k : Fin 4096, (xBlk m c t (ix2 r k) : EReal) * (wBlk m c t (ix2 k q) : EReal)) := by
    intro t h r
    rw [sumsAt_eq, if_pos ((starts_iff t).mpr h)]
    refine (sums_col _ _ _ r).trans ?_
    rw [zeros_apply]
  have hs1 : ∀ t : Fin cfg0.N, ¬t.val % 16 = 0 → ∀ r : Fin 1024, (sumsAt m c t.val t.isLt (ix2 r (0 : Fin 128)) : EReal)
      = (sumsAt m c (t.val - 1) (Nat.lt_of_le_of_lt (Nat.sub_le _ _) t.isLt) (ix2 r (0 : Fin 128)) : EReal)
        + ∑ q : Fin 512, Ideal.exp (∑ k : Fin 4096, (xBlk m c t (ix2 r k) : EReal) * (wBlk m c t (ix2 k q) : EReal)) := by
    intro t h r
    rw [sumsAt_eq, if_neg (fun h' => h ((starts_iff t).mp h'))]
    exact (sums_col _ _ _ r).trans rfl
  refine (Pipeline.eq_sum_fin_of_reset_step_apply_of_flush
    (fun n h => fun r : Fin 1024 => (sumsAt m c n h (ix2 r (0 : Fin 128)) : EReal)) 16 (fun _ => (0 : EReal))
    (fun t r => ∑ q : Fin 512, Ideal.exp (∑ k : Fin 4096, (xBlk m c t (ix2 r k) : EReal) * (wBlk m c t (ix2 k q) : EReal)))
    hs0 hs1 t ht r).trans ?_
  rw [zero_add]
  refine Fin.sum_mul_add_congr fun s q hl => ?_
  have e0 : (16 * (t.val / 16) + s.val) / 16 = t.val / 16 := by omega
  have e1 : (16 * (t.val / 16) + s.val) % 16 = s.val := by omega
  refine (dot_blk m c ⟨16 * (t.val / 16) + s.val, _⟩ r q (by show (16 * (t.val / 16) + s.val) / 16 * 1024 + r.val < 2048; rw [e0]; exact h0)
    (by show (16 * (t.val / 16) + s.val) % 16 * 512 + q.val < 8192; rw [e1]; exact hl)).trans ?_
  exact congrArg₂ (ex (xA m c) (wA m c)) (Fin.ext (by show _ / 16 * 1024 + _ = _; rw [e0])) (Fin.ext (by show _ % 16 * 512 + _ = _; rw [e1]))

/-- The same, at the place of the array the row sits at. -/
theorem sums_point (c : Dev nD) (t : Fin cfg0.N) (ht : t.val % 16 = 15) (y : S1024x128.Idx) (h : (y 1).val = 0) (i : S2048x128.Idx)
    (h0 : (i 0).val = t.val / 16 * 1024 + (y 0).val) :
    (sumsAt m c t.val t.isLt y : EReal) = ∑ q : Fin 8192, ex (xA m c) (wA m c) (i 0) q := by
  obtain ⟨r, z, rfl⟩ : ∃ (r : Fin 1024) (z : Fin 128), y = ix2 r z := ⟨y 0, y 1, eq_ix2 y⟩
  obtain rfl : z = 0 := Fin.ext h
  have h0' : (i 0).val = t.val / 16 * 1024 + r.val := h0
  refine (sumsAt_flush m c t ht r (h0' ▸ (i 0).isLt)).trans (Finset.sum_congr rfl fun q _ => ?_)
  exact congrArg (fun r => ex (xA m c) (wA m c) r q) (Fin.ext h0'.symm)

/-- Column 0 of the sums' array. -/
theorem arr_sums (c : Dev nD) (i : S2048x128.Idx) (h : (i 1).val = 0) : ((dat0 m c).arrAt 3 cfg0.N i : EReal)
    = ∑ q : Fin 8192, ex (xA m c) (wA m c) (i 0) q := by
  revert h
  refine (dat0 m c).arrAt_forall_of_covers 3
    (fun (i : S2048x128.Idx) (v : EReal) => (i 1).val = 0 → v = ∑ q : Fin 8192, ex (xA m c) (wA m c) (i 0) q)
    (by decide +kernel) (fun t hf y => ?_) i
  blk_simp [idx t]
  rw [after0_3]
  exact fun h => sums_point m c t ((flush0_3 t).mp hf) y h _ (by blk_simp [idx t])

/-! ## As the exchange finds them -/

theorem Em_apply (c : Dev nD) (r : Fin 2048) (q : Fin 8192) : (Em m c (ix2 r q) : EReal) = ex (xA m c) (wA m c) r q := by
  have e : Em m c = (dat0 m c).arrAt 2 cfg0.N := by
    have e1 : Em m c = W2 m c main_v3_0 := by unfold Em W3; after_results
    rw [e1]
    exact Pipeline.afterRegion_arr (dat0 m c) (V1 m c) (by decide) 2
  rw [e, arr_numer]
  rfl

theorem Sm_apply (c : Dev nD) (r : Fin 2048) : (Sm m c (ix2 r (0 : Fin 1)) : EReal) = ∑ q : Fin 8192, ex (xA m c) (wA m c) r q := by
  have e2 : W2 m c main_v3_1 = (dat0 m c).arrAt 3 cfg0.N := Pipeline.afterRegion_arr (dat0 m c) (V1 m c) (by decide) 3
  have e1 : W3 m c main_v4 = extractStridedSlice S2048x1 ![0, 0] (W2 m c main_v3_1) slices_S2048x128_S2048x1_0_0 := by
    unfold W3; after_results
  have hr : ∀ g : FVec Ideal S2048x1 .f32,
      ((win1_0.blk t1_0).view.read (Elt Ideal) g (ix2 r (0 : Fin 1)) : EReal) = g (ix2 r (0 : Fin 1)) := by
    intro g
    have hi : win1_0.index t1_0 = ![0, 0] := by decide
    blk_ext [hi]
  refine (hr (W3 m c main_v4)).trans ?_
  rw [e1, e2]
  have hx : ∀ g : FVec Ideal S2048x128 .f32, (extractStridedSlice S2048x1 ![0, 0] g slices_S2048x128_S2048x1_0_0 (ix2 r (0 : Fin 1)) : EReal)
      = g (ix2 r (0 : Fin 128)) := by
    intro g
    pointwise
  exact (hx _).trans (arr_sums m c (ix2 r (0 : Fin 128)) rfl)

end Cert.KernelIdeal.Ex

end
-- ==== Proof.Softmax.lean ====
/- A softmax over the extended reals: with or without the row's maximum taken off first. -/
module

public import Idealize.ShloMosaic.PureOps.Ideal.Laws
public import Idealize.ShloMosaic.Lib.IdealHost
public import Mathlib.Data.Finset.Fold

@[expose] public section

noncomputable section

namespace Cert.Softmax

open Idealize.ShloMosaic
open scoped BigOperators

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- The maximum of finitely many reals, at least one, is real. -/
theorem max_real {n : ℕ} [NeZero n] (l : Fin n → ℝ) :
    ∃ μ : ℝ, (Finset.univ : Finset (Fin n)).fold max (⊥ : EReal) (fun k => (l k : EReal)) = μ := by
  have h1 : (Finset.univ : Finset (Fin n)).fold max (⊥ : EReal) (fun k => (l k : EReal)) ≠ ⊤ :=
    ne_of_lt ((Finset.fold_max_lt _).mpr ⟨bot_lt_top, fun k _ => EReal.coe_lt_top _⟩)
  have h2 : (Finset.univ : Finset (Fin n)).fold max (⊥ : EReal) (fun k => (l k : EReal)) ≠ ⊥ :=
    ne_of_gt ((Finset.lt_fold_max _).mpr (Or.inr ⟨0, Finset.mem_univ _, EReal.bot_lt_coe _⟩))
  exact ⟨_, (EReal.coe_toReal h1 h2).symm⟩

/-- Taking a real off every logit of a row changes no quotient; dividing is multiplying by the reciprocal. -/
theorem shift {n : ℕ} [NeZero n] (l : Fin n → ℝ) (μ : ℝ) (j : Fin n) :
    Ideal.div (Ideal.exp ((l j : EReal) - μ)) (∑ k, Ideal.exp ((l k : EReal) - μ))
      = Ideal.exp (l j) * Ideal.div 1 (∑ k, Ideal.exp (l k)) := by
  have e : ∀ k, Ideal.exp ((l k : EReal) - μ) = ((Real.exp (l k - μ) : ℝ) : EReal) := fun k => by
    rw [← EReal.coe_sub]; rfl
  have e' : ∀ k, Ideal.exp (l k : EReal) = ((Real.exp (l k) : ℝ) : EReal) := fun k => rfl
  have hp : 0 < ∑ k, Real.exp (l k) := Finset.sum_pos (fun k _ => Real.exp_pos _) ⟨0, Finset.mem_univ _⟩
  have hs : ∑ k, Real.exp (l k - μ) = (∑ k, Real.exp (l k)) / Real.exp μ := by
    rw [Finset.sum_div]; exact Finset.sum_congr rfl fun k _ => Real.exp_sub _ _
  have hq : ∑ k, Real.exp (l k - μ) ≠ 0 := by
    rw [hs]; exact (div_pos hp (Real.exp_pos μ)).ne'
  simp only [e, e']
  rw [← coe_sum, ← coe_sum, Ideal.div_coe hq, Ideal.div_coe hp.ne', one_mul, ← EReal.coe_mul, ← EReal.coe_mul, hs, Real.exp_sub]
  congr 1
  have := (Real.exp_pos μ).ne'
  field_simp

/-- A sum of products of reals is real. -/
theorem dot_real {n : ℕ} (a b : Fin n → EReal) (ha : ∀ k, ∃ x : ℝ, a k = x) (hb : ∀ k, ∃ x : ℝ, b k = x) :
    ∃ x : ℝ, ∑ k, a k * b k = x := by
  choose f hf using ha
  choose g hg using hb
  refine ⟨∑ k, f k * g k, ?_⟩
  rw [coe_sum]
  exact Finset.sum_congr rfl fun k _ => by rw [hf, hg, EReal.coe_mul]

end Cert.Softmax

end
-- ==== Proof.RefValue.lean ====
/- The reference's result, read at an index. -/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The logits. -/
def logits (x : FVec Ideal S2048x4096 .f32) (w : FVec Ideal S4096x16384 .f32) : FVec Ideal S2048x16384 .f32 :=
  Host.dotGeneral dot_S2048x4096_S4096x16384_S2048x16384_1_0_0_1_n_n none x w

/-- An array of rows' values, along their rows. -/
def spread (v : FVec Ideal S2048 .f32) : FVec Ideal S2048x16384 .f32 :=
  broadcastInDim S2048x16384 ![0, 1] bcast_S2048x1_S2048x16384_0_1 (broadcastInDim S2048x1 ![0] bcast_S2048_S2048x1_0 v)

/-- The rows' maxima and sums. -/
def rowMax (l : FVec Ideal S2048x16384 .f32) : FVec Ideal S2048 .f32 :=
  Host.reduce FloatOps.maximumf l (constant S_ .f32 0xFF800000#32) reducesTo_S2048x16384_S2048_d1 h_S_
def rowSum (l : FVec Ideal S2048x16384 .f32) : FVec Ideal S2048 .f32 :=
  Host.reduceAdd l (constant S_ .f32 0x00000000#32) reducesTo_S2048x16384_S2048_d1 h_S_

/-- The exponentials, the row's maximum taken off. -/
def shifted (l : FVec Ideal S2048x16384 .f32) : FVec Ideal S2048x16384 .f32 :=
  Host.exp (subf l (spread (rowMax l)))

/-- The reference's result. -/
def result (x : FVec Ideal S2048x4096 .f32) (w : FVec Ideal S4096x16384 .f32) : FVec Ideal S2048x16384 .f32 :=
  Host.divf (shifted (logits x w)) (spread (rowSum (shifted (logits x w))))

theorem logits_apply (x : FVec Ideal S2048x4096 .f32) (w : FVec Ideal S4096x16384 .f32) (r : Fin 2048) (j : Fin 16384) :
    (logits x w (ix2 r j) : EReal) = ∑ k : Fin 4096, x (ix2 r k) * w (ix2 k j) := by
  pointwise [logits]

theorem spread_apply (v : FVec Ideal S2048 .f32) (r : Fin 2048) (j : Fin 16384) : (spread v (ix2 r j) : EReal) = v (ix1 r) := by
  pointwise [spread]

theorem neg_inf : Ideal.ofBits .f32 0xFF800000#32 = ⊥ := by simp [Ideal.ofBits, Ideal.ieee]

theorem max_apply (l : FVec Ideal S2048x16384 .f32) (r : Fin 2048) :
    (rowMax l (ix1 r) : EReal)
      = (Finset.univ : Finset (Fin 16384)).fold max (⊥ : EReal) fun k => l (ix2 r k) := by
  rw [← neg_inf]
  pointwise [rowMax]

theorem sum_apply (l : FVec Ideal S2048x16384 .f32) (r : Fin 2048) :
    (rowSum l (ix1 r) : EReal)
      = ∑ k : Fin 16384, l (ix2 r k) := by
  pointwise [rowSum]

theorem shifted_apply (l : FVec Ideal S2048x16384 .f32) (r : Fin 2048) (j : Fin 16384) :
    (shifted l (ix2 r j) : EReal)
      = Ideal.exp (l (ix2 r j) - (Finset.univ : Finset (Fin 16384)).fold max (⊥ : EReal) fun k => l (ix2 r k)) := by
  rw [← max_apply, ← spread_apply (rowMax l) r j]
  rfl

/-- With real arguments: an entry's exponential times the reciprocal of the row's sum of them. -/
theorem result_apply (x : FVec Ideal S2048x4096 .f32) (w : FVec Ideal S4096x16384 .f32)
    (hx : ∀ i, ∃ a : ℝ, (x i : EReal) = a) (hw : ∀ i, ∃ a : ℝ, (w i : EReal) = a) (r : Fin 2048) (j : Fin 16384) :
    (result x w (ix2 r j) : EReal) = Ideal.exp (∑ k : Fin 4096, x (ix2 r k) * w (ix2 k j))
      * Ideal.div 1 (∑ j : Fin 16384, Ideal.exp (∑ k : Fin 4096, x (ix2 r k) * w (ix2 k j))) := by
  have hl : ∀ j : Fin 16384, ∃ a : ℝ, ∑ k : Fin 4096, x (ix2 r k) * w (ix2 k j) = (a : EReal) := fun j =>
    Cert.Softmax.dot_real (fun k => x (ix2 r k)) (fun k => w (ix2 k j)) (fun k => hx _) (fun k => hw _)
  choose l hl using hl
  have el : ∀ j : Fin 16384, (logits x w (ix2 r j) : EReal) = l j := fun j => (logits_apply x w r j).trans (hl j)
  obtain ⟨μ, hμ⟩ := Cert.Softmax.max_real l
  have es : ∀ j : Fin 16384, (shifted (logits x w) (ix2 r j) : EReal) = Ideal.exp ((l j : EReal) - μ) := fun j => by
    rw [shifted_apply]
    simp only [el, hμ]
  have ed : (result x w (ix2 r j) : EReal)
      = Ideal.div (shifted (logits x w) (ix2 r j)) (∑ k : Fin 16384, (shifted (logits x w) (ix2 r k) : EReal)) := by
    refine (ValueIdx.hostDivf_apply (shifted (logits x w)) (spread (rowSum (shifted (logits x w)))) (ix2 r j)).trans ?_
    exact congrArg (Ideal.div _) ((spread_apply _ r j).trans (sum_apply _ r))
  rw [ed]
  simp only [es, hl]
  exact Cert.Softmax.shift l μ j

end Cert.ReferenceIdeal.Value

end
-- ==== Proof.Join.lean ====
/- The kernel's result, read at an index, and the reference's: the same array. -/
module

public import proofs.«01_k».proof.Proof.Arrays
public import proofs.«01_k».proof.Proof.RefValue
public import Idealize.ShloMosaic.Lib.Layout

@[expose] public section

set_option maxRecDepth 16384

noncomputable section

namespace Cert.KernelIdeal.Ex

open Idealize.ShloMosaic Idealize.ShloMosaic.TcCoe
open Cert.KernelIdeal.Gen

/-! ## What a device stores, at an index -/

theorem tile_apply (f : EBuf Ideal) (i : Fin 8) (r : Fin 256) (q : Fin 8192) (R : Fin 2048) (h : R.val = 256 * i.val + r.val) :
    (tile f i (ix2 r q) : EReal) = f (ix2 R q) := by
  refine congrArg f (?_ : (eT i).view.emb (ix2 r q) = ix2 R q)
  funext a
  apply Fin.ext
  fin_cases a
  · show 256 * i.val + 1 * r.val = R.val
    omega
  · show 0 + 1 * q.val = q.val
    omega

theorem rows_apply (g : SBuf Ideal) (i : Fin 8) (r : Fin 256) (R : Fin 2048) (h : R.val = 256 * i.val + r.val) :
    (rows g i (ix2 r (0 : Fin 1)) : EReal) = g (ix2 R (0 : Fin 1)) := by
  refine congrArg g (?_ : (Rect.unit (s := S2048x1) ![256 * i.val, 0] S256x1.size (inbRecip i)).emb (ix2 r (0 : Fin 1)) = ix2 R (0 : Fin 1))
  funext a
  apply Fin.ext
  fin_cases a
  · show 256 * i.val + 1 * r.val = R.val
    omega
  · rfl

theorem outW_apply (E : Dev nD → EBuf Ideal) (S : Dev nD → SBuf Ideal) (c : Dev nD) (r : Fin 2048) (J : Fin 16384) (q : Fin 8192)
    (hq : q.val = J.val % 8192) :
    (outW E S c (ix2 r J) : EReal) = (if J.val / 8192 = (half c).val then E c else E (nbr c)) (ix2 r q)
      * Ideal.div 1 (S c (ix2 r (0 : Fin 1)) + S (nbr c) (ix2 r (0 : Fin 1))) := by
  have hr : r.val = 256 * (tileOf r.val r.isLt).val + r.val % 256 := by
    show r.val = 256 * (r.val / 256) + r.val % 256
    omega
  obtain rfl : q = ⟨J.val % 8192, Nat.mod_lt _ (by decide)⟩ := Fin.ext hq
  refine (scaled_apply (tile (if J.val / 8192 = (half c).val then E c else E (nbr c)) (tileOf r.val r.isLt))
    (rows (recip S c) (tileOf r.val r.isLt)) ⟨r.val % 256, Nat.mod_lt _ (by decide)⟩ ⟨J.val % 8192, Nat.mod_lt _ (by decide)⟩).trans ?_
  rw [tile_apply _ _ _ _ r hr, rows_apply _ _ _ r hr]
  exact congrArg _ (recip_apply (S c) (S (nbr c)) r)

/-! ## The whole matrix -/

theorem half_nbr : ∀ c : Dev nD, (half (nbr c)).val = 1 - (half c).val := by decide

theorem half_block : ∀ (c : Dev nD) (d : Fin 2),
    ((Layout.meshBlock [2, 2, 4] (![[], [1]] : Fin 2 → List Nat) c) d).val = (![0, (half c).val] : Fin 2 → Nat) d := by decide

theorem half_onto : ∀ h : Fin 2, ∃ c : Dev nD, half c = h := by decide

/-- A device's part of the whole matrix. -/
theorem part_apply (w : FVec Ideal ReferenceIdeal.S4096x16384 .f32) (c : Dev nD) (k : Fin 4096) (q : Fin 8192) (J : Fin 16384)
    (h : J.val = (half c).val * 8192 + q.val) :
    ((Layout.blockN ⟨2, ![4096, 8192]⟩ ⟨2, ![4096, 16384]⟩ (Layout.meshBlock [2, 2, 4] ![[], [1]] c) w : FVec Ideal S4096x8192 .f32) (ix2 k q) : EReal)
      = w (ix2 k J) := by
  refine congrArg w ?_
  funext a
  apply Fin.ext
  fin_cases a
  · have e := half_block c 0
    show ((Layout.meshBlock [2, 2, 4] (![[], [1]] : Fin 2 → List Nat) c) 0).val * 4096 + k.val = k.val
    rw [e]
    show 0 * 4096 + k.val = k.val
    omega
  · have e := half_block c 1
    show ((Layout.meshBlock [2, 2, 4] (![[], [1]] : Fin 2 → List Nat) c) 1).val * 8192 + q.val = J.val
    rw [e]
    exact h.symm

variable (x : FVec Ideal S2048x4096 .f32) (w : FVec Ideal ReferenceIdeal.S4096x16384 .f32)

/-- The exponential of an entry of the product with the whole matrix. -/
def exAll (r : Fin 2048) (J : Fin 16384) : EReal :=
  Ideal.exp (∑ k : Fin 4096, x (ix2 r k) * w (ix2 k J))

variable (E : Dev nD → EBuf Ideal) (S : Dev nD → SBuf Ideal)
  (hE : ∀ (c : Dev nD) (r : Fin 2048) (q : Fin 8192) (J : Fin 16384), J.val = (half c).val * 8192 + q.val →
    (E c (ix2 r q) : EReal) = exAll x w r J)
  (hS : ∀ (c : Dev nD) (r : Fin 2048) (J : Fin 8192 → Fin 16384), (∀ q, (J q).val = (half c).val * 8192 + q.val) →
    (S c (ix2 r (0 : Fin 1)) : EReal) = ∑ q : Fin 8192, exAll x w r (J q))

include hS in
theorem sums_add (c : Dev nD) (r : Fin 2048) :
    (S c (ix2 r (0 : Fin 1)) + S (nbr c) (ix2 r (0 : Fin 1)) : EReal) = ∑ J : Fin 16384, exAll x w r J := by
  have key : ∀ a b : Dev nD, (half a).val = 0 → (half b).val = 1 →
      (S a (ix2 r (0 : Fin 1)) + S b (ix2 r (0 : Fin 1)) : EReal) = ∑ J : Fin 16384, exAll x w r J := by
    intro a b ha hb
    rw [hS a r (fun q => ⟨q.val, by omega⟩) (fun q => by show q.val = _; rw [ha]; omega),
      hS b r (fun q => ⟨8192 + q.val, by omega⟩) (fun q => by show 8192 + q.val = _; rw [hb])]
    exact (Fin.sum_univ_add (a := 8192) (b := 8192) (fun J : Fin 16384 => exAll x w r J)).symm
  have hn := half_nbr c
  rcases Nat.lt_or_ge (half c).val 1 with h | h
  · exact key c (nbr c) (by omega) (by omega)
  · rw [add_comm]
    exact key (nbr c) c (by omega) (by have := (half c).isLt; omega)

include hE hS in
/-- Every device's result is the reference's. -/
theorem outW_eq (hx : ∀ i, ∃ a : ℝ, (x i : EReal) = a) (hw : ∀ i, ∃ a : ℝ, (w i : EReal) = a) (c : Dev nD) :
    outW E S c = ReferenceIdeal.Value.result x w := by
  funext i
  obtain ⟨r, J, rfl⟩ : ∃ (r : Fin 2048) (J : Fin 16384), i = ix2 r J := ⟨i 0, i 1, eq_ix2 i⟩
  have hJ : (⟨J.val % 8192, Nat.mod_lt _ (by decide)⟩ : Fin 8192).val = J.val % 8192 := rfl
  refine (outW_apply E S c r J ⟨J.val % 8192, Nat.mod_lt _ (by decide)⟩ rfl).trans ?_
  refine Eq.trans ?_ (ReferenceIdeal.Value.result_apply x w hx hw r J).symm
  refine congrArg₂ (· * ·) ?_ (congrArg (Ideal.div 1) (sums_add x w S hS c r))
  have hn := half_nbr c
  have := (half c).isLt
  by_cases h : J.val / 8192 = (half c).val
  · rw [if_pos h]
    exact hE c r _ J (by show J.val = _ * 8192 + J.val % 8192; omega)
  · rw [if_neg h]
    exact hE (nbr c) r _ J (by show J.val = _ * 8192 + J.val % 8192; omega)

end Cert.KernelIdeal.Ex

end
-- ==== Proof.Finite.lean ====
/- What the precondition says of a device's arguments: every entry is real. -/
module

public import proofs.«01_k».proof.Pre_finite_KernelIdeal
public import Idealize.ShloMosaic.Lib.ReduceAll
public import Idealize.ShloMosaic.Lib.IdealHost
public import Idealize.ShloMosaic.PureOps.Ideal.Laws

@[expose] public section

noncomputable section

namespace Cert.Pre_finite_KernelIdeal

open Idealize.ShloMosaic

theorem top_word : Ideal.ofBits .f32 0x7F800000#32 = ⊤ := by simp [Ideal.ofBits, Ideal.ieee]

theorem real_of_abs_lt (a : EReal) (h : Ideal.cmp .olt (max a (-a)) (Ideal.ofBits .f32 0x7F800000#32) = 1#1) :
    ∃ x : ℝ, a = x := by
  rw [top_word] at h
  induction a using EReal.rec with
  | bot => exact absurd h (by simp [Ideal.cmp])
  | top => exact absurd h (by simp [Ideal.cmp])
  | coe x => exact ⟨x, rfl⟩

variable [Facts]
open Facts

instance : Subsingleton S_.Idx := ⟨fun a b => funext fun d => d.elim0⟩

theorem real (x : FVec Ideal S2048x4096 .f32) (w : FVec Ideal S4096x8192 .f32) (h : fn x w = fun _ => 1#1) :
    (∀ i, ∃ a : ℝ, (x i : EReal) = a) ∧ ∀ i, ∃ a : ℝ, (w i : EReal) = a := by
  have h0 := congrFun h (fun d => d.elim0)
  obtain ⟨h1, h2⟩ := IntOp.andi_eq_one.1 h0
  exact ⟨fun i => real_of_abs_lt _ (Host.reduce_andi_all _ _ _ _ _ h1 i), fun i => real_of_abs_lt _ (Host.reduce_andi_all _ _ _ _ _ h2 i)⟩

end Cert.Pre_finite_KernelIdeal

end
-- ==== Proof.Algebraic.lean ====
/- The value claim: the kernel's result on every device is the reference's. -/
module

public import proofs.«01_k».proof.Proof.Frames
public import proofs.«01_k».proof.Proof.Join
public import proofs.«01_k».proof.Proof.Finite

@[expose] public section

set_option maxRecDepth 16384

noncomputable section

namespace Cert.Proof

open Idealize.ShloMosaic Idealize.ShloMosaic.TcCoe Idealize.SL.Sem
open Cert.KernelIdeal.Ex (half half_onto part_apply outW Em Sm Em_apply Sm_apply ex exAll xA wA outW_eq)

instance facts_pre_KernelIdeal : Cert.Pre_finite_KernelIdeal.Facts := by
  constructor <;> decide

instance facts_pre_ReferenceIdeal : Cert.Pre_finite_ReferenceIdeal.Facts := by
  constructor <;> decide

section Join

variable (m : (ℓ : Loc Cert.KernelIdeal.nD Cert.KernelIdeal.τ Cert.KernelIdeal.sig) → Buf (Elt Ideal) ℓ)
  (x : FVec Ideal Cert.KernelIdeal.S2048x4096 .f32) (w : FVec Ideal Cert.ReferenceIdeal.S4096x16384 .f32)
  (hx : ∀ c, xA m c = x)
  (hw : ∀ c, wA m c = Layout.blockN ⟨2, ![4096, 8192]⟩ ⟨2, ![4096, 16384]⟩ (Layout.meshBlock [2, 2, 4] ![[], [1]] c) w)

include hx hw in
/-- A device's exponentials are its columns of the whole product's. -/
theorem ex_part (c : Dev Cert.KernelIdeal.nD) (r : Fin 2048) (q : Fin 8192) (J : Fin 16384) (h : J.val = (half c).val * 8192 + q.val) :
    ex (xA m c) (wA m c) r q = exAll x w r J := by
  unfold ex exAll
  refine congrArg Ideal.exp (Finset.sum_congr rfl fun k _ => ?_)
  rw [hx c, hw c]
  exact congrArg (x (ix2 r k) * ·) (part_apply w c k q J h)

include hw in
/-- A matrix of which every device's part is real is real. -/
theorem whole_real (hf : ∀ c i, ∃ a : ℝ, (wA m c i : EReal) = a) (i : Cert.ReferenceIdeal.S4096x16384.Idx) :
    ∃ a : ℝ, (w i : EReal) = a := by
  obtain ⟨k, J, rfl⟩ : ∃ (k : Fin 4096) (J : Fin 16384), i = ix2 k J := ⟨i 0, i 1, eq_ix2 i⟩
  obtain ⟨c, hc⟩ := half_onto ⟨J.val / 8192, by omega⟩
  obtain ⟨a, ha⟩ := hf c (ix2 k (⟨J.val % 8192, Nat.mod_lt _ (by decide)⟩ : Fin 8192))
  refine ⟨a, Eq.trans ?_ ha⟩
  rw [hw c]
  refine (part_apply w c k _ J ?_).symm
  rw [hc]
  show J.val = J.val / 8192 * 8192 + J.val % 8192
  omega

include hx hw in
theorem result_eq (hf : Cert.Pre_KernelIdeal_finite_KernelIdeal m) (c : Dev Cert.KernelIdeal.nD) :
    outW (Em m) (Sm m) c = Cert.ReferenceIdeal.Value.result x w := by
  have hr := fun c => Cert.Pre_finite_KernelIdeal.real (xA m c) (wA m c) (hf c)
  refine outW_eq x w (Em m) (Sm m)
    (fun c r q J h => (Em_apply m c r q).trans (ex_part m x w hx hw c r q J h))
    (fun c r J h => (Sm_apply m c r).trans (Finset.sum_congr rfl fun q _ => ex_part m x w hx hw c r q (J q) (h q)))
    ?_ (whole_real m w hw fun c => (hr c).2) c
  rw [← hx c]
  exact (hr c).1

end Join

theorem algebraic : Cert.algebraic_KernelIdeal_ReferenceIdeal_pre_finite_KernelIdeal := fun m ρ m' ρ' hf h => by
  refine ⟨Cert.ReferenceIdeal.Value.result (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1)), ?_, ?_⟩
  · exact (θ_run Cert.KernelIdeal.defs _ _).mono
      (fun r hr c => ⟨((hr.1 c).2.2).trans (result_eq m _ _ (fun c => (h c).1) (fun c => (h c).2) hf c), (hr.1 c).1, (hr.1 c).2.1⟩)
      (Cert.KernelIdeal.Ex.run_main m ρ)
  · exact (θ_run Cert.ReferenceIdeal.defs _ _).mono (fun r hr => hr 0) (Cert.ReferenceIdeal.Value.run m' ρ')

end Cert.Proof

end
-- ==== Proof.lean ====
/- The certificate: each claim from the kernel's run and the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  facts_pre_KernelIdeal, facts_pre_ReferenceIdeal,
  frame_Kernel, frame_KernelIdeal, fun m g _ => frame_KernelIdeal m g trivial,
  frame_ReferenceIdeal, fun m g _ => frame_ReferenceIdeal m g trivial, trivial, algebraic⟩

end Cert.Proof

end
